-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_on_clear_pre_finite [hKernelIdeal : Cert.KernelIdeal.Facts] [hReferenceIdeal : Cert.ReferenceIdeal.Facts] [hPre_finite : Cert.Pre_finite.Facts] [hOn_clear : Cert.On_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 1024, 128]⟩ : Shape).Idx, (Cert.On_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) i = 1#1 → r.2.mem ((c.tc : Thread Cert.KernelIdeal.nD Cert.KernelIdeal.τ).loc Cert.KernelIdeal.main_v9) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 1024, 128]⟩ : Shape).Idx, (Cert.On_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) i = 1#1 → r.2.mem ((c.tc : Thread Cert.ReferenceIdeal.nD Cert.ReferenceIdeal.τ).loc Cert.ReferenceIdeal.main_v91) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts) (hOn_clear : Cert.On_clear.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_clear_pre_finite (hKernelIdeal := hKernelIdeal) (hReferenceIdeal := hReferenceIdeal) (hPre_finite := hPre_finite) (hOn_clear := hOn_clear)
-- ==== On_clear.lean ====
abbrev S2x4x1024x128 : Shape := ⟨4, ![2, 4, 1024, 128]⟩
abbrev S2x4x1024x3 : Shape := ⟨4, ![2, 4, 1024, 3]⟩
abbrev S128x128 : Shape := ⟨2, ![128, 128]⟩
abbrev S128 : Shape := ⟨1, ![128]⟩
abbrev S3x128 : Shape := ⟨2, ![3, 128]⟩
abbrev S128x1 : Shape := ⟨2, ![128, 1]⟩
abbrev S1 : Shape := ⟨1, ![1]⟩
abbrev S2x4x1024x1x3 : Shape := ⟨5, ![2, 4, 1024, 1, 3]⟩
abbrev S2x4x1x1024x3 : Shape := ⟨5, ![2, 4, 1, 1024, 3]⟩
abbrev S2x4x1024x1024x3 : Shape := ⟨5, ![2, 4, 1024, 1024, 3]⟩
abbrev S_ : Shape := ⟨0, ![]⟩
abbrev S2x4x1024x1024 : Shape := ⟨4, ![2, 4, 1024, 1024]⟩
abbrev S2x4x1024x17 : Shape := ⟨4, ![2, 4, 1024, 17]⟩
abbrev S2x4x1024x16 : Shape := ⟨4, ![2, 4, 1024, 16]⟩
abbrev S2x4x1024 : Shape := ⟨3, ![2, 4, 1024]⟩
abbrev S2x4x1024x16x1 : Shape := ⟨5, ![2, 4, 1024, 16, 1]⟩
abbrev S2x4x1024x1x16 : Shape := ⟨5, ![2, 4, 1024, 1, 16]⟩
abbrev S2x4x1024x16x16 : Shape := ⟨5, ![2, 4, 1024, 16, 16]⟩
abbrev S2x4x1024x1 : Shape := ⟨4, ![2, 4, 1024, 1]⟩
abbrev S8x1024x128 : Shape := ⟨3, ![8, 1024, 128]⟩

class Facts : Prop where
  bcast_S2x4x1024x3_S2x4x1024x1x3_0_1_2_4 : S2x4x1024x3.BroadcastsInDim S2x4x1024x1x3 (![0, 1, 2, 4] : Fin 4 → Fin S2x4x1024x1x3.rank)
  bcast_S2x4x1024x3_S2x4x1x1024x3_0_1_3_4 : S2x4x1024x3.BroadcastsInDim S2x4x1x1024x3 (![0, 1, 3, 4] : Fin 4 → Fin S2x4x1x1024x3.rank)
  bcast_S2x4x1024x1x3_S2x4x1024x1024x3_0_1_2_3_4 : S2x4x1024x1x3.BroadcastsInDim S2x4x1024x1024x3 (![0, 1, 2, 3, 4] : Fin 5 → Fin S2x4x1024x1024x3.rank)
  bcast_S2x4x1x1024x3_S2x4x1024x1024x3_0_1_2_3_4 : S2x4x1x1024x3.BroadcastsInDim S2x4x1024x1024x3 (![0, 1, 2, 3, 4] : Fin 5 → Fin S2x4x1024x1024x3.rank)
  reducesTo_S2x4x1024x1024x3_S2x4x1024x1024_d4 : S2x4x1024x1024x3.ReducesTo [4] S2x4x1024x1024
  h_S_ : 0 < S_.numel
  sliceFits_S2x4x1024x1024_S2x4x1024x17 : S2x4x1024x1024.Slices (fun _ => 0) S2x4x1024x17
  slices_S2x4x1024x17_S2x4x1024x16_0_0_0_1 : S2x4x1024x17.Slices ![0, 0, 0, 1] S2x4x1024x16
  slices_S2x4x1024x17_S2x4x1024x16_0_0_0_0 : S2x4x1024x17.Slices ![0, 0, 0, 0] S2x4x1024x16
  reducesTo_S2x4x1024x16_S2x4x1024_d3 : S2x4x1024x16.ReducesTo [3] S2x4x1024
  bcast_S_S2x4x1024x16 : S_.BroadcastsInDim S2x4x1024x16 (![] : Fin 0 → Fin S2x4x1024x16.rank)
  bcast_S2x4x1024x16_S2x4x1024x16x1_0_1_2_3 : S2x4x1024x16.BroadcastsInDim S2x4x1024x16x1 (![0, 1, 2, 3] : Fin 4 → Fin S2x4x1024x16x1.rank)
  bcast_S2x4x1024x16_S2x4x1024x1x16_0_1_2_4 : S2x4x1024x16.BroadcastsInDim S2x4x1024x1x16 (![0, 1, 2, 4] : Fin 4 → Fin S2x4x1024x1x16.rank)
  bcast_S2x4x1024x16x1_S2x4x1024x16x16_0_1_2_3_4 : S2x4x1024x16x1.BroadcastsInDim S2x4x1024x16x16 (![0, 1, 2, 3, 4] : Fin 5 → Fin S2x4x1024x16x16.rank)
  bcast_S2x4x1024x1x16_S2x4x1024x16x16_0_1_2_3_4 : S2x4x1024x1x16.BroadcastsInDim S2x4x1024x16x16 (![0, 1, 2, 3, 4] : Fin 5 → Fin S2x4x1024x16x16.rank)
  natLt_1_32 : 1 < 32
  reducesTo_S2x4x1024x16x16_S2x4x1024x16_d4 : S2x4x1024x16x16.ReducesTo [4] S2x4x1024x16
  bcast_S2x4x1024_S2x4x1024x1_0_1_2 : S2x4x1024.BroadcastsInDim S2x4x1024x1 (![0, 1, 2] : Fin 3 → Fin S2x4x1024x1.rank)
  bcast_S2x4x1024x1_S2x4x1024x128_0_1_2_3 : S2x4x1024x1.BroadcastsInDim S2x4x1024x128 (![0, 1, 2, 3] : Fin 4 → Fin S2x4x1024x128.rank)
  shapeCasts_S2x4x1024x128_S8x1024x128 : S2x4x1024x128.ShapeCasts S8x1024x128

variable [Facts]

def fn_part1 {F : FTy → Type} [FloatOps F] (main_v11 : IVec S2x4x1024 1) (main_v17 : IVec S2x4x1024x16x16 32) (main_v18 : IVec S2x4x1024x16x16 32) : IVec S8x1024x128 1 :=
  let main_v19 : IVec S2x4x1024x16x16 1 := cmpi .eq main_v17 main_v18
  let main_v20 : IVec S2x4x1024x16x16 32 := (extui 32 · natLt_1_32) main_v19
  let main_c_1 : IVec S_ 32 := constantI S_ 32 0#32
  let main_v21 : IVec S2x4x1024x16 32 := (fun x v => Host.reduce IntOp.addi x v reducesTo_S2x4x1024x16x16_S2x4x1024x16_d4 h_S_) main_v20 main_c_1
  let main_c_2 : IVec S_ 32 := constantI S_ 32 4#32
  let main_v22 : IVec S2x4x1024x16 32 := broadcastInDim S2x4x1024x16 ![] bcast_S_S2x4x1024x16 main_c_2
  let main_v23 : IVec S2x4x1024x16 1 := cmpi .sle main_v21 main_v22
  let main_c_3 : IVec S_ 1 := constantI S_ 1 1#1
  let main_v24 : IVec S2x4x1024 1 := (fun x v => Host.reduce IntOp.andi x v reducesTo_S2x4x1024x16_S2x4x1024_d3 h_S_) main_v23 main_c_3
  let main_v25 : IVec S2x4x1024 1 := andi main_v11 main_v24
  let main_v26 : IVec S2x4x1024x1 1 := broadcastInDim S2x4x1024x1 ![0, 1, 2] bcast_S2x4x1024_S2x4x1024x1_0_1_2 main_v25
  let main_v27 : IVec S2x4x1024x128 1 := broadcastInDim S2x4x1024x128 ![0, 1, 2, 3] bcast_S2x4x1024x1_S2x4x1024x128_0_1_2_3 main_v26
  let main_v28 : IVec S8x1024x128 1 := shapeCast S8x1024x128 main_v27 shapeCasts_S2x4x1024x128_S8x1024x128
  main_v28

def fn {F : FTy → Type} [FloatOps F] (main_arg0 : FVec F S2x4x1024x128 .f32) (main_arg1 : FVec F S2x4x1024x3 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S3x128 .f32) (main_arg9 : FVec F S128 .f32) (main_arg10 : FVec F S3x128 .f32) (main_arg11 : FVec F S128 .f32) (main_arg12 : FVec F S128x1 .f32) (main_arg13 : FVec F S1 .f32) (main_arg14 : FVec F S128x128 .f32) (main_arg15 : FVec F S128 .f32) : IVec S8x1024x128 1 :=
  let main_v0 : FVec F S2x4x1024x1x3 .f32 := broadcastInDim S2x4x1024x1x3 ![0, 1, 2, 4] bcast_S2x4x1024x3_S2x4x1024x1x3_0_1_2_4 main_arg1
  let main_v1 : FVec F S2x4x1x1024x3 .f32 := broadcastInDim S2x4x1x1024x3 ![0, 1, 3, 4] bcast_S2x4x1024x3_S2x4x1x1024x3_0_1_3_4 main_arg1
  let main_v2 : FVec F S2x4x1024x1024x3 .f32 := broadcastInDim S2x4x1024x1024x3 ![0, 1, 2, 3, 4] bcast_S2x4x1024x1x3_S2x4x1024x1024x3_0_1_2_3_4 main_v0
  let main_v3 : FVec F S2x4x1024x1024x3 .f32 := broadcastInDim S2x4x1024x1024x3 ![0, 1, 2, 3, 4] bcast_S2x4x1x1024x3_S2x4x1024x1024x3_0_1_2_3_4 main_v1
  let main_v4 : FVec F S2x4x1024x1024x3 .f32 := subf main_v2 main_v3
  let main_v5 : FVec F S2x4x1024x1024x3 .f32 := mulf main_v4 main_v4
  let main_cst : FVec F S_ .f32 := constant S_ .f32 0x00000000#32
  let main_v6 : FVec F S2x4x1024x1024 .f32 := (fun x v => Host.reduceAdd x v reducesTo_S2x4x1024x1024x3_S2x4x1024x1024_d4 h_S_) main_v5 main_cst
  let main_v7 : FVec F S2x4x1024x1024 .f32 := Host.negf main_v6
  let main_values : FVec F S2x4x1024x17 .f32 := (fun x => (Host.topK S2x4x1024x17 3 (FloatOps.cmpfTotal .gt) x sliceFits_S2x4x1024x1024_S2x4x1024x17).1) main_v7
  let main_indices : IVec S2x4x1024x17 32 := (fun x => (Host.topK S2x4x1024x17 3 (FloatOps.cmpfTotal .gt) x sliceFits_S2x4x1024x1024_S2x4x1024x17).2) main_v7
  let main_v8 : FVec F S2x4x1024x16 .f32 := (extractStridedSlice S2x4x1024x16 ![0, 0, 0, 1] · slices_S2x4x1024x17_S2x4x1024x16_0_0_0_1) main_values
  let main_v9 : FVec F S2x4x1024x16 .f32 := (extractStridedSlice S2x4x1024x16 ![0, 0, 0, 0] · slices_S2x4x1024x17_S2x4x1024x16_0_0_0_0) main_values
  let main_v10 : IVec S2x4x1024x16 1 := cmpf .olt main_v8 main_v9
  let main_c : IVec S_ 1 := constantI S_ 1 1#1
  let main_v11 : IVec S2x4x1024 1 := (fun x v => Host.reduce IntOp.andi x v reducesTo_S2x4x1024x16_S2x4x1024_d3 h_S_) main_v10 main_c
  let main_v12 : IVec S2x4x1024x16 32 := (extractStridedSlice S2x4x1024x16 ![0, 0, 0, 0] · slices_S2x4x1024x17_S2x4x1024x16_0_0_0_0) main_indices
  let main_c_0 : IVec S_ 32 := constantI S_ 32 15#32
  let main_v13 : IVec S2x4x1024x16 32 := broadcastInDim S2x4x1024x16 ![] bcast_S_S2x4x1024x16 main_c_0
  let main_v14 : IVec S2x4x1024x16 32 := andi main_v12 main_v13
  let main_v15 : IVec S2x4x1024x16x1 32 := broadcastInDim S2x4x1024x16x1 ![0, 1, 2, 3] bcast_S2x4x1024x16_S2x4x1024x16x1_0_1_2_3 main_v14
  let main_v16 : IVec S2x4x1024x1x16 32 := broadcastInDim S2x4x1024x1x16 ![0, 1, 2, 4] bcast_S2x4x1024x16_S2x4x1024x1x16_0_1_2_4 main_v14
  let main_v17 : IVec S2x4x1024x16x16 32 := broadcastInDim S2x4x1024x16x16 ![0, 1, 2, 3, 4] bcast_S2x4x1024x16x1_S2x4x1024x16x16_0_1_2_3_4 main_v15
  let main_v18 : IVec S2x4x1024x16x16 32 := broadcastInDim S2x4x1024x16x16 ![0, 1, 2, 3, 4] bcast_S2x4x1024x1x16_S2x4x1024x16x16_0_1_2_3_4 main_v16
  fn_part1 (F := F) main_v11 main_v17 main_v18
-- ==== Pre_finite.lean ====
abbrev S2x4x1024x128 : Shape := ⟨4, ![2, 4, 1024, 128]⟩
abbrev S2x4x1024x3 : Shape := ⟨4, ![2, 4, 1024, 3]⟩
abbrev S128x128 : Shape := ⟨2, ![128, 128]⟩
abbrev S128 : Shape := ⟨1, ![128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S2x4x1024x128 : S_.BroadcastsInDim S2x4x1024x128 (![] : Fin 0 → Fin S2x4x1024x128.rank)
  bcast_S_S2x4x1024x3 : S_.BroadcastsInDim S2x4x1024x3 (![] : Fin 0 → Fin S2x4x1024x3.rank)
  bcast_S_S128x128 : S_.BroadcastsInDim S128x128 (![] : Fin 0 → Fin S128x128.rank)
  bcast_S_S128 : S_.BroadcastsInDim S128 (![] : Fin 0 → Fin S128.rank)
  bcast_S_S3x128 : S_.BroadcastsInDim S3x128 (![] : Fin 0 → Fin S3x128.rank)
  bcast_S_S128x1 : S_.BroadcastsInDim S128x1 (![] : Fin 0 → Fin S128x1.rank)
  bcast_S_S1 : S_.BroadcastsInDim S1 (![] : Fin 0 → Fin S1.rank)

variable [Facts]

def fn_part1 {F : FTy → Type} [FloatOps F] (main_arg8 : FVec F S3x128 .f32) (main_arg9 : FVec F S128 .f32) (main_arg10 : FVec F S3x128 .f32) (main_arg11 : FVec F S128 .f32) (main_arg12 : FVec F S128x1 .f32) (main_arg13 : FVec F S1 .f32) (main_v2 : IVec S2x4x1024x128 1) (main_v5 : IVec S2x4x1024x3 1) (main_v8 : IVec S128x128 1) (main_v11 : IVec S128 1) (main_v14 : IVec S128x128 1) (main_v17 : IVec S128 1) : IVec S2x4x1024x128 1 × IVec S2x4x1024x3 1 × IVec S128x128 1 × IVec S128 1 × IVec S128x128 1 × IVec S128 1 × IVec S3x128 1 × IVec S128 1 × IVec S3x128 1 × IVec S128 1 × IVec S128x1 1 × IVec S1 1 :=
  let main_v18 : FVec F S3x128 .f32 := Host.absf main_arg8
  let main_cst_5 : FVec F S_ .f32 := constant S_ .f32 0x7F800000#32
  let main_v19 : FVec F S3x128 .f32 := broadcastInDim S3x128 ![] bcast_S_S3x128 main_cst_5
  let main_v20 : IVec S3x128 1 := cmpf .olt main_v18 main_v19
  let main_v21 : FVec F S128 .f32 := Host.absf main_arg9
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_v24 : FVec F S3x128 .f32 := Host.absf main_arg10
  let main_cst_7 : FVec F S_ .f32 := constant S_ .f32 0x7F800000#32
  let main_v25 : FVec F S3x128 .f32 := broadcastInDim S3x128 ![] bcast_S_S3x128 main_cst_7
  let main_v26 : IVec S3x128 1 := cmpf .olt main_v24 main_v25
  let main_v27 : FVec F S128 .f32 := Host.absf main_arg11
  let main_cst_8 : FVec F S_ .f32 := constant S_ .f32 0x7F800000#32
  let main_v28 : FVec F S128 .f32 := broadcastInDim S128 ![] bcast_S_S128 main_cst_8
  let main_v29 : IVec S128 1 := cmpf .olt main_v27 main_v28
  let main_v30 : FVec F S128x1 .f32 := Host.absf main_arg12
  let main_cst_9 : FVec F S_ .f32 := constant S_ .f32 0x7F800000#32
  let main_v31 : FVec F S128x1 .f32 := broadcastInDim S128x1 ![] bcast_S_S128x1 main_cst_9
  let main_v32 : IVec S128x1 1 := cmpf .olt main_v30 main_v31
  let main_v33 : FVec F S1 .f32 := Host.absf main_arg13
  let main_cst_10 : FVec F S_ .f32 := constant S_ .f32 0x7F800000#32
  let main_v34 : FVec F S1 .f32 := broadcastInDim S1 ![] bcast_S_S1 main_cst_10
  let main_v35 : IVec S1 1 := cmpf .olt main_v33 main_v34
  (main_v2, main_v5, main_v8, main_v11, main_v14, main_v17, main_v20, main_v23, main_v26, main_v29, main_v32, main_v35)

def fn {F : FTy → Type} [FloatOps F] (main_arg0 : FVec F S2x4x1024x128 .f32) (main_arg1 : FVec F S2x4x1024x3 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S3x128 .f32) (main_arg9 : FVec F S128 .f32) (main_arg10 : FVec F S3x128 .f32) (main_arg11 : FVec F S128 .f32) (main_arg12 : FVec F S128x1 .f32) (main_arg13 : FVec F S1 .f32) (main_arg14 : FVec F S128x128 .f32) (main_arg15 : FVec F S128 .f32) : IVec S2x4x1024x128 1 × IVec S2x4x1024x3 1 × IVec S128x128 1 × IVec S128 1 × IVec S128x128 1 × IVec S128 1 × IVec S3x128 1 × IVec S128 1 × IVec S3x128 1 × IVec S128 1 × IVec S128x1 1 × IVec S1 1 :=
  let main_v0 : FVec F S2x4x1024x128 .f32 := Host.absf main_arg0
  let main_cst : FVec F S_ .f32 := constant S_ .f32 0x7F800000#32
  let main_v1 : FVec F S2x4x1024x128 .f32 := broadcastInDim S2x4x1024x128 ![] bcast_S_S2x4x1024x128 main_cst
  let main_v2 : IVec S2x4x1024x128 1 := cmpf .olt main_v0 main_v1
  let main_v3 : FVec F S2x4x1024x3 .f32 := Host.absf main_arg1
  let main_cst_0 : FVec F S_ .f32 := constant S_ .f32 0x7F800000#32
  let main_v4 : FVec F S2x4x1024x3 .f32 := broadcastInDim S2x4x1024x3 ![] bcast_S_S2x4x1024x3 main_cst_0
  let main_v5 : IVec S2x4x1024x3 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128x128 .f32 := Host.absf main_arg4
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg8 main_arg9 main_arg10 main_arg11 main_arg12 main_arg13 main_v2 main_v5 main_v8 main_v11 main_v14 main_v17
-- ==== Kernel.lean ====
abbrev S2x4x1024x128 : Shape := ⟨4, ![2, 4, 1024, 128]⟩
abbrev S2x4x1024x3 : Shape := ⟨4, ![2, 4, 1024, 3]⟩
abbrev S128x128 : Shape := ⟨2, ![128, 128]⟩
abbrev S128 : Shape := ⟨1, ![128]⟩
abbrev S3x128 : Shape := ⟨2, ![3, 128]⟩
abbrev S128x1 : Shape := ⟨2, ![128, 1]⟩
abbrev S1 : Shape := ⟨1, ![1]⟩
abbrev S8x1024x128 : Shape := ⟨3, ![8, 1024, 128]⟩
abbrev S8x1024x3 : Shape := ⟨3, ![8, 1024, 3]⟩
abbrev S8x3x1024 : Shape := ⟨3, ![8, 3, 1024]⟩
abbrev S1x128 : Shape := ⟨2, ![1, 128]⟩
abbrev S1x1024x128 : Shape := ⟨3, ![1, 1024, 128]⟩
abbrev S1x1024x3 : Shape := ⟨3, ![1, 1024, 3]⟩
abbrev S1x3x1024 : Shape := ⟨3, ![1, 3, 1024]⟩
abbrev S1024x128 : Shape := ⟨2, ![1024, 128]⟩
abbrev S1024x3 : Shape := ⟨2, ![1024, 3]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S1024 : Shape := ⟨1, ![1024]⟩

abbrev nBuf : Space → Nat
  | .hbm => 26
  | .vmem => 20
  | .smem => 0
  | _ => 0

abbrev bufTy : (tb : Table) → Fin (tcTables nBuf tb) → BufTy
  | .hbm, ⟨0, _⟩ => ⟨S2x4x1024x128, .f32⟩
  | .hbm, ⟨1, _⟩ => ⟨S2x4x1024x3, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S3x128, .f32⟩
  | .hbm, ⟨9, _⟩ => ⟨S128, .f32⟩
  | .hbm, ⟨10, _⟩ => ⟨S3x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S128x128, .f32⟩
  | .hbm, ⟨15, _⟩ => ⟨S128, .f32⟩
  | .hbm, ⟨16, _⟩ => ⟨S8x1024x128, .f32⟩
  | .hbm, ⟨17, _⟩ => ⟨S8x1024x3, .f32⟩
  | .hbm, ⟨18, _⟩ => ⟨S8x3x1024, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S8x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x3, .f32⟩
  | .local _ .vmem, ⟨3, _⟩ => ⟨S1x1024x3, .f32⟩
  | .local _ .vmem, ⟨4, _⟩ => ⟨S1x3x1024, .f32⟩
  | .local _ .vmem, ⟨5, _⟩ => ⟨S1x3x1024, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S3x128, .f32⟩
  | .local _ .vmem, ⟨13, _⟩ => ⟨S1x128, .f32⟩
  | .local _ .vmem, ⟨14, _⟩ => ⟨S3x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x1024x128, .f32⟩
  | .local _ .vmem, ⟨19, _⟩ => ⟨S1x1024x128, .f32⟩
  | _, _ => ⟨S2x4x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S2x4x1024x128 : Shape := ⟨4, ![2, 4, 1024, 128]⟩
abbrev S2x4x1024x3 : Shape := ⟨4, ![2, 4, 1024, 3]⟩
abbrev S128x128 : Shape := ⟨2, ![128, 128]⟩
abbrev S128 : Shape := ⟨1, ![128]⟩
abbrev S3x128 : Shape := ⟨2, ![3, 128]⟩
abbrev S128x1 : Shape := ⟨2, ![128, 1]⟩
abbrev S1 : Shape := ⟨1, ![1]⟩
abbrev S1x1x1x128 : Shape := ⟨4, ![1, 1, 1, 128]⟩
abbrev S2x4x1024x1x3 : Shape := ⟨5, ![2, 4, 1024, 1, 3]⟩
abbrev S2x4x1x1024x3 : Shape := ⟨5, ![2, 4, 1, 1024, 3]⟩
abbrev S2x4x1024x1024x3 : Shape := ⟨5, ![2, 4, 1024, 1024, 3]⟩
abbrev S_ : Shape := ⟨0, ![]⟩
abbrev S2x4x1024x1024 : Shape := ⟨4, ![2, 4, 1024, 1024]⟩
abbrev S2x4x1024x16 : Shape := ⟨4, ![2, 4, 1024, 16]⟩
abbrev S2x4x1024x16x1 : Shape := ⟨5, ![2, 4, 1024, 16, 1]⟩
abbrev S2x4x1024x16x128 : Shape := ⟨5, ![2, 4, 1024, 16, 128]⟩
abbrev S2x4x1024x1x128 : Shape := ⟨5, ![2, 4, 1024, 1, 128]⟩
abbrev S2x4x1024x16x3 : Shape := ⟨5, ![2, 4, 1024, 16, 3]⟩
abbrev S1x1x1x1x128 : Shape := ⟨5, ![1, 1, 1, 1, 128]⟩
abbrev S1x1x1x1x1 : Shape := ⟨5, ![1, 1, 1, 1, 1]⟩
abbrev S2x4x1024 : Shape := ⟨3, ![2, 4, 1024]⟩
abbrev S2x4x1024x1 : Shape := ⟨4, ![2, 4, 1024, 1]⟩
abbrev S8x1024x128 : Shape := ⟨3, ![8, 1024, 128]⟩

abbrev nBuf : Space → Nat
  | .hbm => 125
  | .vmem => 0
  | .smem => 0
  | _ => 0

abbrev bufTy : (tb : Table) → Fin (tcTables nBuf tb) → BufTy
  | .hbm, ⟨0, _⟩ => ⟨S2x4x1024x128, .f32⟩
  | .hbm, ⟨1, _⟩ => ⟨S2x4x1024x3, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S3x128, .f32⟩
  | .hbm, ⟨9, _⟩ => ⟨S128, .f32⟩
  | .hbm, ⟨10, _⟩ => ⟨S3x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S128x128, .f32⟩
  | .hbm, ⟨15, _⟩ => ⟨S128, .f32⟩
  | .hbm, ⟨16, _⟩ => ⟨S2x4x1024x128, .f32⟩
  | .hbm, ⟨17, _⟩ => ⟨S1x1x1x128, .f32⟩
  | .hbm, ⟨18, _⟩ => ⟨S2x4x1024x128, .f32⟩
  | .hbm, ⟨19, _⟩ => ⟨S2x4x1024x128, .f32⟩
  | .hbm, ⟨20, _⟩ => ⟨S2x4x1024x128, .f32⟩
  | .hbm, ⟨21, _⟩ => ⟨S1x1x1x128, .f32⟩
  | .hbm, ⟨22, _⟩ => ⟨S2x4x1024x128, .f32⟩
  | .hbm, ⟨23, _⟩ => ⟨S2x4x1024x128, .f32⟩
  | .hbm, ⟨24, _⟩ => ⟨S2x4x1024x128, .f32⟩
  | .hbm, ⟨25, _⟩ => ⟨S1x1x1x128, .f32⟩
  | .hbm, ⟨26, _⟩ => ⟨S2x4x1024x128, .f32⟩
  | .hbm, ⟨27, _⟩ => ⟨S2x4x1024x128, .f32⟩
  | .hbm, ⟨28, _⟩ => ⟨S2x4x1024x128, .f32⟩
  | .hbm, ⟨29, _⟩ => ⟨S1x1x1x128, .f32⟩
  | .hbm, ⟨30, _⟩ => ⟨S2x4x1024x128, .f32⟩
  | .hbm, ⟨31, _⟩ => ⟨S2x4x1024x128, .f32⟩
  | .hbm, ⟨32, _⟩ => ⟨S2x4x1024x1x3, .f32⟩
  | .hbm, ⟨33, _⟩ => ⟨S2x4x1x1024x3, .f32⟩
  | .hbm, ⟨34, _⟩ => ⟨S2x4x1024x1024x3, .f32⟩
  | .hbm, ⟨35, _⟩ => ⟨S2x4x1024x1024x3, .f32⟩
  | .hbm, ⟨36, _⟩ => ⟨S2x4x1024x1024x3, .f32⟩
  | .hbm, ⟨37, _⟩ => ⟨S2x4x1024x1024x3, .f32⟩
  | .hbm, ⟨38, _⟩ => ⟨S_, .f32⟩
  | .hbm, ⟨39, _⟩ => ⟨S2x4x1024x1024, .f32⟩
  | .hbm, ⟨40, _⟩ => ⟨S2x4x1024x1024, .f32⟩
  | .hbm, ⟨41, _⟩ => ⟨S2x4x1024x16, .f32⟩
  | .hbm, ⟨42, _⟩ => ⟨S2x4x1024x16, .i32⟩
  | .hbm, ⟨43, _⟩ => ⟨S_, .i32⟩
  | .hbm, ⟨44, _⟩ => ⟨S2x4x1024x16, .i32⟩
  | .hbm, ⟨45, _⟩ => ⟨S2x4x1024x16, .i1⟩
  | .hbm, ⟨46, _⟩ => ⟨S_, .i32⟩
  | .hbm, ⟨47, _⟩ => ⟨S2x4x1024x16, .i32⟩
  | .hbm, ⟨48, _⟩ => ⟨S2x4x1024x16, .i32⟩
  | .hbm, ⟨49, _⟩ => ⟨S2x4x1024x16, .i32⟩
  | .hbm, ⟨50, _⟩ => ⟨S2x4x1024x16x1, .i32⟩
  | .hbm, ⟨51, _⟩ => ⟨S2x4x1024x16x128, .f32⟩
  | .hbm, ⟨52, _⟩ => ⟨S_, .i32⟩
  | .hbm, ⟨53, _⟩ => ⟨S2x4x1024x16, .i32⟩
  | .hbm, ⟨54, _⟩ => ⟨S2x4x1024x16, .i1⟩
  | .hbm, ⟨55, _⟩ => ⟨S_, .i32⟩
  | .hbm, ⟨56, _⟩ => ⟨S2x4x1024x16, .i32⟩
  | .hbm, ⟨57, _⟩ => ⟨S2x4x1024x16, .i32⟩
  | .hbm, ⟨58, _⟩ => ⟨S2x4x1024x16, .i32⟩
  | .hbm, ⟨59, _⟩ => ⟨S2x4x1024x16x1, .i32⟩
  | .hbm, ⟨60, _⟩ => ⟨S2x4x1024x16x128, .f32⟩
  | .hbm, ⟨61, _⟩ => ⟨S_, .i32⟩
  | .hbm, ⟨62, _⟩ => ⟨S2x4x1024x16, .i32⟩
  | .hbm, ⟨63, _⟩ => ⟨S2x4x1024x16, .i1⟩
  | .hbm, ⟨64, _⟩ => ⟨S_, .i32⟩
  | .hbm, ⟨65, _⟩ => ⟨S2x4x1024x16, .i32⟩
  | .hbm, ⟨66, _⟩ => ⟨S2x4x1024x16, .i32⟩
  | .hbm, ⟨67, _⟩ => ⟨S2x4x1024x16, .i32⟩
  | .hbm, ⟨68, _⟩ => ⟨S2x4x1024x16x1, .i32⟩
  | .hbm, ⟨69, _⟩ => ⟨S2x4x1024x16x128, .f32⟩
  | .hbm, ⟨70, _⟩ => ⟨S2x4x1024x128, .f32⟩
  | .hbm, ⟨71, _⟩ => ⟨S2x4x1024x1x128, .f32⟩
  | .hbm, ⟨72, _⟩ => ⟨S_, .i32⟩
  | .hbm, ⟨73, _⟩ => ⟨S2x4x1024x16, .i32⟩
  | .hbm, ⟨74, _⟩ => ⟨S2x4x1024x16, .i1⟩
  | .hbm, ⟨75, _⟩ => ⟨S_, .i32⟩
  | .hbm, ⟨76, _⟩ => ⟨S2x4x1024x16, .i32⟩
  | .hbm, ⟨77, _⟩ => ⟨S2x4x1024x16, .i32⟩
  | .hbm, ⟨78, _⟩ => ⟨S2x4x1024x16, .i32⟩
  | .hbm, ⟨79, _⟩ => ⟨S2x4x1024x16x1, .i32⟩
  | .hbm, ⟨80, _⟩ => ⟨S2x4x1024x16x3, .f32⟩
  | .hbm, ⟨81, _⟩ => ⟨S2x4x1024x1x3, .f32⟩
  | .hbm, ⟨82, _⟩ => ⟨S2x4x1024x16x3, .f32⟩
  | .hbm, ⟨83, _⟩ => ⟨S2x4x1024x16x3, .f32⟩
  | .hbm, ⟨84, _⟩ => ⟨S2x4x1024x16x128, .f32⟩
  | .hbm, ⟨85, _⟩ => ⟨S1x1x1x1x128, .f32⟩
  | .hbm, ⟨86, _⟩ => ⟨S2x4x1024x16x128, .f32⟩
  | .hbm, ⟨87, _⟩ => ⟨S2x4x1024x16x128, .f32⟩
  | .hbm, ⟨88, _⟩ => ⟨S2x4x1024x16x128, .f32⟩
  | .hbm, ⟨89, _⟩ => ⟨S2x4x1024x16x128, .f32⟩
  | .hbm, ⟨90, _⟩ => ⟨S2x4x1024x16x128, .f32⟩
  | .hbm, ⟨91, _⟩ => ⟨S2x4x1024x16x128, .f32⟩
  | .hbm, ⟨92, _⟩ => ⟨S2x4x1024x16x1, .f32⟩
  | .hbm, ⟨93, _⟩ => ⟨S1x1x1x1x1, .f32⟩
  | .hbm, ⟨94, _⟩ => ⟨S2x4x1024x16x1, .f32⟩
  | .hbm, ⟨95, _⟩ => ⟨S2x4x1024x16x1, .f32⟩
  | .hbm, ⟨96, _⟩ => ⟨S2x4x1024x16, .f32⟩
  | .hbm, ⟨97, _⟩ => ⟨S_, .f32⟩
  | .hbm, ⟨98, _⟩ => ⟨S2x4x1024, .f32⟩
  | .hbm, ⟨99, _⟩ => ⟨S_, .f32⟩
  | .hbm, ⟨100, _⟩ => ⟨S2x4x1024, .f32⟩
  | .hbm, ⟨101, _⟩ => ⟨S2x4x1024, .f32⟩
  | .hbm, ⟨102, _⟩ => ⟨S2x4x1024x1, .f32⟩
  | .hbm, ⟨103, _⟩ => ⟨S2x4x1024x16, .f32⟩
  | .hbm, ⟨104, _⟩ => ⟨S2x4x1024x16, .f32⟩
  | .hbm, ⟨105, _⟩ => ⟨S2x4x1024x16, .f32⟩
  | .hbm, ⟨106, _⟩ => ⟨S_, .f32⟩
  | .hbm, ⟨107, _⟩ => ⟨S2x4x1024, .f32⟩
  | .hbm, ⟨108, _⟩ => ⟨S2x4x1024x1, .f32⟩
  | .hbm, ⟨109, _⟩ => ⟨S2x4x1024x16, .f32⟩
  | .hbm, ⟨110, _⟩ => ⟨S2x4x1024x16, .f32⟩
  | .hbm, ⟨111, _⟩ => ⟨S2x4x1024x16x1, .f32⟩
  | .hbm, ⟨112, _⟩ => ⟨S2x4x1024x16x128, .f32⟩
  | .hbm, ⟨113, _⟩ => ⟨S2x4x1024x16x128, .f32⟩
  | .hbm, ⟨114, _⟩ => ⟨S_, .f32⟩
  | .hbm, ⟨115, _⟩ => ⟨S2x4x1024x128, .f32⟩
  | .hbm, ⟨116, _⟩ => ⟨S2x4x1024x128, .f32⟩
  | .hbm, ⟨117, _⟩ => ⟨S1x1x1x128, .f32⟩
  | .hbm, ⟨118, _⟩ => ⟨S2x4x1024x128, .f32⟩
  | .hbm, ⟨119, _⟩ => ⟨S2x4x1024x128, .f32⟩
  | .hbm, ⟨120, _⟩ => ⟨S_, .f32⟩
  | .hbm, ⟨121, _⟩ => ⟨S2x4x1024x128, .f32⟩
  | .hbm, ⟨122, _⟩ => ⟨S2x4x1024x128, .f32⟩
  | .hbm, ⟨123, _⟩ => ⟨S2x4x1024x128, .f32⟩
  | .hbm, ⟨124, _⟩ => ⟨S8x1024x128, .f32⟩
  | _, _ => ⟨S2x4x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_values : Ref sig .tc := ⟨.hbm, 41, rfl⟩
abbrev main_indices : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_1 : Ref sig .tc := ⟨.hbm, 52, rfl⟩
abbrev main_v31 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_3 : Ref sig .tc := ⟨.hbm, 61, rfl⟩
abbrev main_v38 : Ref sig .tc := ⟨.hbm, 62, rfl⟩
abbrev main_v39 : Ref sig .tc := ⟨.hbm, 63, rfl⟩
abbrev main_c_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_5 : Ref sig .tc := ⟨.hbm, 72, rfl⟩
abbrev main_v47 : Ref sig .tc := ⟨.hbm, 73, rfl⟩
abbrev main_v48 : Ref sig .tc := ⟨.hbm, 74, rfl⟩
abbrev main_c_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_7 : Ref sig .tc := ⟨.hbm, 97, rfl⟩
abbrev main_v70 : Ref sig .tc := ⟨.hbm, 98, rfl⟩
abbrev main_cst_8 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_9 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_10 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call0_cst : Ref sig .tc := ⟨.hbm, 120, rfl⟩
abbrev main_call0_v0 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]
-- ==== Proof.Formulas.lean ====
module
public import Idealize.ShloMosaic.Lib.Pointwise

/-! The layer's formulas on one cloud of 1024 points, as the kernel and as the reference spell them. -/

@[expose] public section
noncomputable section
namespace Cert.Nearest
open Idealize.ShloMosaic

/-- One cloud: features, positions; and the weights. -/
structure Cloud where
  x : Fin 1024 → Fin 128 → EReal
  pos : Fin 1024 → Fin 3 → EReal
  wq : Fin 128 → Fin 128 → EReal
  bq : Fin 128 → EReal
  wk : Fin 128 → Fin 128 → EReal
  bk : Fin 128 → EReal
  wv : Fin 128 → Fin 128 → EReal
  bv : Fin 128 → EReal
  wp : Fin 3 → Fin 128 → EReal
  bp : Fin 128 → EReal
  wd : Fin 3 → Fin 128 → EReal
  bd : Fin 128 → EReal
  wa : Fin 128 → EReal
  ba : EReal
  wo : Fin 128 → Fin 128 → EReal
  bo : Fin 128 → EReal

/-- Values: features through their weights. -/
def Cloud.v (I : Cloud) (j : Fin 1024) (c : Fin 128) : EReal := ∑ k, I.x j k * I.wv k c + I.bv c

/-- What is done with the mixed values: output weights, rectification, and the features added back. -/
def Cloud.finish (I : Cloud) (mix : Fin 128 → EReal) (i : Fin 1024) (c : Fin 128) : EReal :=
  I.x i c + max (∑ k, mix k * I.wo k c + I.bo c) 0

/-- The kernel's queries. -/
def Cloud.kq (I : Cloud) (i : Fin 1024) (h : Fin 128) : EReal :=
  ∑ k, I.x i k * I.wq k h + ∑ k, I.pos i k * I.wp k h + (I.bq h + I.bp h)

/-- The kernel's keys, the position difference's part of point j folded in. -/
def Cloud.kk (I : Cloud) (j : Fin 1024) (h : Fin 128) : EReal :=
  ∑ k, I.x j k * I.wk k h + ∑ k, I.pos j k * (I.wp k h + I.wd k h) + (I.bk h + I.bp h)

/-- The kernel's logit of point j for query i. -/
def Cloud.klogit (I : Cloud) (j i : Fin 1024) : EReal := ∑ h, I.kk j h * (I.kq i h * I.wa h)

/-- The kernel's unnormalised weight of point j for query i: zero past the threshold. -/
def Cloud.kweight (I : Cloud) (d : Fin 1024 → Fin 1024 → EReal) (thr : Fin 1024 → EReal) (j i : Fin 1024) : EReal :=
  if d j i ≤ thr i then Ideal.exp (I.klogit j i) else 0

/-- The kernel's mixed values. -/
def Cloud.kmix (I : Cloud) (d : Fin 1024 → Fin 1024 → EReal) (thr : Fin 1024 → EReal) (i : Fin 1024) (c : Fin 128) : EReal :=
  (∑ j, I.kweight d thr j i * I.v j c) * Ideal.div 1 (∑ j, I.kweight d thr j i)

/-- The squared distance as the kernel sums it. -/
def Cloud.kdist (I : Cloud) (j i : Fin 1024) : EReal :=
  (I.pos j 0 - I.pos i 0) * (I.pos j 0 - I.pos i 0) + (I.pos j 1 - I.pos i 1) * (I.pos j 1 - I.pos i 1) +
    (I.pos j 2 - I.pos i 2) * (I.pos j 2 - I.pos i 2)

/-- The reference's queries, position encoding added. -/
def Cloud.rq (I : Cloud) (i : Fin 1024) (h : Fin 128) : EReal :=
  (∑ k, I.x i k * I.wq k h + I.bq h) + (∑ k, I.pos i k * I.wp k h + I.bp h)

/-- The reference's key of point j seen from point i: keys, position encoding, and the encoded position difference. -/
def Cloud.rk (I : Cloud) (j i : Fin 1024) (h : Fin 128) : EReal :=
  ((∑ k, I.x j k * I.wk k h + I.bk h) + (∑ k, I.pos j k * I.wp k h + I.bp h)) +
    (∑ k, (I.pos j k - I.pos i k) * I.wd k h + I.bd h)

/-- The reference's logit of point j for query i. -/
def Cloud.rlogit (I : Cloud) (j i : Fin 1024) : EReal := ∑ h, I.rq i h * I.rk j i h * I.wa h + I.ba

/-- A number larger than or equal to each of sixteen, and to the least number. -/
def largest (l : Fin 16 → EReal) : EReal := max ⊥ ((Finset.univ : Finset (Fin 16)).fold max ⊥ l)

/-- Sixteen values mixed by the normalised exponentials of sixteen logits. -/
def softmix (l f : Fin 16 → EReal) : EReal :=
  ∑ t, Ideal.div (Ideal.exp (l t - largest l)) (∑ s, Ideal.exp (l s - largest l)) * f t

/-- The reference's mixed values, over sixteen points s. -/
def Cloud.rmix (I : Cloud) (s : Fin 16 → Fin 1024) (i : Fin 1024) (c : Fin 128) : EReal :=
  softmix (fun t => I.rlogit (s t) i) (fun t => I.v (s t) c)

/-- Cloud g read from the sixteen arguments. -/
def argCloud (x0 : FVec Ideal ⟨4, ![2, 4, 1024, 128]⟩ .f32) (x1 : FVec Ideal ⟨4, ![2, 4, 1024, 3]⟩ .f32) (x2 : FVec Ideal ⟨2, ![128, 128]⟩ .f32)
    (x3 : FVec Ideal ⟨1, ![128]⟩ .f32) (x4 : FVec Ideal ⟨2, ![128, 128]⟩ .f32) (x5 : FVec Ideal ⟨1, ![128]⟩ .f32) (x6 : FVec Ideal ⟨2, ![128, 128]⟩ .f32)
    (x7 : FVec Ideal ⟨1, ![128]⟩ .f32) (x8 : FVec Ideal ⟨2, ![3, 128]⟩ .f32) (x9 : FVec Ideal ⟨1, ![128]⟩ .f32) (x10 : FVec Ideal ⟨2, ![3, 128]⟩ .f32)
    (x11 : FVec Ideal ⟨1, ![128]⟩ .f32) (x12 : FVec Ideal ⟨2, ![128, 1]⟩ .f32) (x13 : FVec Ideal ⟨1, ![1]⟩ .f32) (x14 : FVec Ideal ⟨2, ![128, 128]⟩ .f32)
    (x15 : FVec Ideal ⟨1, ![128]⟩ .f32) (g : Fin 8) : Cloud where
  x j k := x0 (ix4 ⟨g.val / 4, by omega⟩ ⟨g.val % 4, by omega⟩ j k)
  pos j k := x1 (ix4 ⟨g.val / 4, by omega⟩ ⟨g.val % 4, by omega⟩ j k)
  wq k h := x2 (ix2 k h)
  bq h := x3 (ix1 h)
  wk k h := x4 (ix2 k h)
  bk h := x5 (ix1 h)
  wv k h := x6 (ix2 k h)
  bv h := x7 (ix1 h)
  wp k h := x8 (ix2 k h)
  bp h := x9 (ix1 h)
  wd k h := x10 (ix2 k h)
  bd h := x11 (ix1 h)
  wa h := x12 (ix2 h 0)
  ba := x13 (ix1 0)
  wo k h := x14 (ix2 k h)
  bo h := x15 (ix1 h)
end Cert.Nearest
end
-- ==== Proof.Softmix.lean ====
module
public import proofs.«01_k».proof.Proof.Formulas

/-! Sixteen values mixed by softmax: a shift of the logits and the subtraction of the largest change nothing, whatever the
    values (they may be infinite). -/

@[expose] public section
noncomputable section
namespace Cert.Nearest
open Idealize.ShloMosaic

/-- A finite sum of reals, read as an extended real. -/
theorem coe_sum {ι : Type} (S : Finset ι) (f : ι → ℝ) : ((∑ t ∈ S, f t : ℝ) : EReal) = ∑ t ∈ S, (f t : EReal) := by
  classical
  induction S using Finset.induction_on with
  | empty => simp
  | insert a S ha ih => rw [Finset.sum_insert ha, Finset.sum_insert ha, EReal.coe_add, ih]

/-- A positive real distributes over a sum of extended reals. -/
theorem mul_sum_of_pos {ι : Type} (S : Finset ι) (r : ℝ) (hr : 0 < r) (f : ι → EReal) : (r : EReal) * ∑ t ∈ S, f t = ∑ t ∈ S, (r : EReal) * f t := by
  classical
  induction S using Finset.induction_on with
  | empty => simp
  | insert a S ha ih =>
    rw [Finset.sum_insert ha, Finset.sum_insert ha, ← ih]
    exact EReal.left_distrib_of_nonneg_of_ne_top (EReal.coe_nonneg.mpr hr.le) (EReal.coe_ne_top r) _ _

/-- The quotient of two reals, the divisor positive. -/
theorem div_coe (a b : ℝ) (hb : 0 < b) : Ideal.div (a : EReal) (b : EReal) = ((a / b : ℝ) : EReal) := by
  unfold Ideal.div
  rw [if_neg (by exact_mod_cast hb.ne')]
  rw [div_eq_mul_inv, EReal.coe_mul, EReal.coe_inv]

/-- The largest of sixteen reals is a real. -/
theorem largest_real (l : Fin 16 → ℝ) : ∃ M : ℝ, largest (fun t => (l t : EReal)) = M := by
  have key : ∀ S : Finset (Fin 16), (S.fold max ⊥ fun t => (l t : EReal)) = ⊥ ∨ ∃ M : ℝ, (S.fold max ⊥ fun t => (l t : EReal)) = M := by
    classical
    intro S
    induction S using Finset.induction_on with
    | empty => left; rfl
    | insert a S ha ih =>
      right
      rw [Finset.fold_insert ha]
      rcases ih with h | ⟨M, h⟩
      · exact ⟨l a, by rw [h]; exact max_eq_left bot_le⟩
      · exact ⟨max (l a) M, by rw [h]; exact (EReal.coe_strictMono.monotone.map_max).symm⟩
  unfold largest
  rw [max_eq_right bot_le]
  rcases key Finset.univ with h | h
  · exfalso
    have h0 : (l 0 : EReal) ≤ (Finset.univ : Finset (Fin 16)).fold max ⊥ fun t => (l t : EReal) :=
      (Finset.le_fold_max _).mpr (Or.inr ⟨0, Finset.mem_univ _, le_rfl⟩)
    rw [h] at h0
    exact EReal.coe_ne_bot _ (le_bot_iff.mp h0)
  · exact h

/-- The softmax mix by logits k + K is the sum weighted by the exponentials of k, over the sum of the exponentials. -/
theorem softmix_shift (k : Fin 16 → ℝ) (K : ℝ) (f : Fin 16 → EReal) : softmix (fun t => ((k t + K : ℝ) : EReal)) f =
    (∑ t, Ideal.exp (k t : EReal) * f t) * Ideal.div 1 (∑ t, Ideal.exp (k t : EReal)) := by
  obtain ⟨M, hM⟩ := largest_real (fun t => k t + K)
  have hpos : ∀ g : Fin 16 → ℝ, 0 < ∑ t, Real.exp (g t) := fun g => Finset.sum_pos (fun t _ => Real.exp_pos _) Finset.univ_nonempty
  unfold softmix
  rw [hM]
  simp only [← EReal.coe_sub, Ideal.exp_coe, ← coe_sum]
  rw [show (1 : EReal) = ((1 : ℝ) : EReal) from rfl, div_coe _ _ (hpos _), mul_comm, mul_sum_of_pos _ _ (one_div_pos.mpr (hpos _))]
  refine Finset.sum_congr rfl fun t _ => ?_
  rw [div_coe _ _ (hpos _), ← mul_assoc, ← EReal.coe_mul]
  congr 2
  have e : ∀ s, Real.exp (k s + K - M) = Real.exp (K - M) * Real.exp (k s) := fun s => by rw [← Real.exp_add]; congr 1; ring
  simp only [e, ← Finset.mul_sum]
  have h1 := hpos k
  have h2 := Real.exp_pos (K - M)
  field_simp

end Cert.Nearest
end
-- ==== Proof.Network.lean ====
/-
  The kernel's sorting of one query's distances, as plain functions on extended reals.

  Eight distances go through a sorting network that keeps the four smallest in order (`net8`); two such ordered
  quadruples are merged into the ordered quadruple of the four smallest of both (`merge4`). What a quadruple holds is said
  by counting: `Counts s n` says that, for every bound `t`, the k-th entry of `s` is at most `t` exactly when the number
  `n t` of entries at most `t` is at least k.
-/
module

public import Idealize.ShloMosaic.Lib.Pointwise

@[expose] public section

noncomputable section

namespace Cert.Nearest

/-- Four values, the smallest first. -/
structure Four (α : Type) where
  a : α
  b : α
  c : α
  d : α

/-- The network on eight values, in terms of the two outputs `lo` and `hi` of one comparator: the four smallest. -/
def net8 {α : Type} (lo hi : α → α → α) (x0 x1 x2 x3 x4 x5 x6 x7 : α) : Four α :=
  let v68 := lo x0 x1
  let v69 := hi x0 x1
  let v70 := lo x2 x3
  let v71 := hi x2 x3
  let v72 := lo x4 x5
  let v73 := hi x4 x5
  let v74 := lo x6 x7
  let v75 := hi x6 x7
  let v76 := lo v68 v70
  let v77 := hi v68 v70
  let v78 := lo v69 v71
  let v79 := hi v69 v71
  let v80 := lo v72 v74
  let v81 := hi v72 v74
  let v82 := lo v73 v75
  let v83 := hi v73 v75
  let v84 := lo v78 v77
  let v85 := hi v78 v77
  let v86 := lo v82 v81
  let v87 := hi v82 v81
  let v88 := lo v76 v80
  let v89 := hi v76 v80
  let v90 := lo v84 v86
  let v91 := hi v84 v86
  let v92 := lo v85 v87
  let v93 := lo v79 v83
  let v94 := lo v92 v89
  let v95 := hi v92 v89
  let v96 := lo v93 v91
  let v97 := lo v90 v94
  let v98 := hi v90 v94
  let v99 := lo v96 v95
  ⟨v88, v97, v98, v99⟩

/-- The four smallest of two ordered quadruples, in order: the smaller of each entry and its partner from the other end,
    then two rounds of comparators. -/
def merge4 {α : Type} (lo hi : α → α → α) (p q : Four α) : Four α :=
  let m0 := lo p.a q.d
  let m1 := lo p.b q.c
  let m2 := lo p.c q.b
  let m3 := lo p.d q.a
  let n0 := lo m0 m2
  let n2 := hi m0 m2
  let n1 := lo m1 m3
  let n3 := hi m1 m3
  ⟨lo n0 n1, hi n0 n1, lo n2 n3, hi n2 n3⟩

/-- On truth values, `or` being the smaller output: the network says of each k ≤ 4 whether at least k inputs are true. -/
theorem net8_bool : ∀ x0 x1 x2 x3 x4 x5 x6 x7 : Bool,
    (let s := net8 or and x0 x1 x2 x3 x4 x5 x6 x7
     let n := x0.toNat + x1.toNat + x2.toNat + x3.toNat + x4.toNat + x5.toNat + x6.toNat + x7.toNat
     s.a = decide (1 ≤ n) ∧ s.b = decide (2 ≤ n) ∧ s.c = decide (3 ≤ n) ∧ s.d = decide (4 ≤ n)) := by
  decide +kernel

/-- The network commutes with a map that takes its comparator to another. -/
theorem net8_map {α β : Type} (lo hi : α → α → α) (lo' hi' : β → β → β) (f : α → β)
    (hl : ∀ x y, f (lo x y) = lo' (f x) (f y)) (hh : ∀ x y, f (hi x y) = hi' (f x) (f y))
    (x0 x1 x2 x3 x4 x5 x6 x7 : α) :
    net8 lo' hi' (f x0) (f x1) (f x2) (f x3) (f x4) (f x5) (f x6) (f x7) =
      (let s := net8 lo hi x0 x1 x2 x3 x4 x5 x6 x7
       ⟨f s.a, f s.b, f s.c, f s.d⟩) := by
  simp only [net8, hl, hh]

/-- `s` lists the four smallest of a family of which `n t` members are at most `t`. -/
def Counts (s : Four EReal) (n : EReal → ℕ) : Prop :=
  ∀ t, (s.a ≤ t ↔ 1 ≤ n t) ∧ (s.b ≤ t ↔ 2 ≤ n t) ∧ (s.c ≤ t ↔ 3 ≤ n t) ∧ (s.d ≤ t ↔ 4 ≤ n t)

/-- The network's quadruple lists the four smallest of its eight inputs. -/
theorem counts_net8 (x : Fin 8 → EReal) :
    Counts (net8 min max (x 0) (x 1) (x 2) (x 3) (x 4) (x 5) (x 6) (x 7)) (fun t => ∑ u : Fin 8, if x u ≤ t then 1 else 0) := by
  intro t
  have hm := net8_map min max or and (fun v : EReal => decide (v ≤ t)) (fun a b => by simp [min_le_iff])
    (fun a b => by simp [max_le_iff]) (x 0) (x 1) (x 2) (x 3) (x 4) (x 5) (x 6) (x 7)
  have hb := net8_bool (decide (x 0 ≤ t)) (decide (x 1 ≤ t)) (decide (x 2 ≤ t)) (decide (x 3 ≤ t)) (decide (x 4 ≤ t))
    (decide (x 5 ≤ t)) (decide (x 6 ≤ t)) (decide (x 7 ≤ t))
  have hn : ∀ u, (decide (x u ≤ t)).toNat = if x u ≤ t then 1 else 0 := fun u => by by_cases h : x u ≤ t <;> simp [h]
  simp only [hm, hn] at hb
  simp only [Fin.sum_univ_eight]
  simpa only [decide_eq_decide] using hb

/-- The merged quadruple lists the four smallest of the two families together. -/
theorem counts_merge4 {p q : Four EReal} {n k : EReal → ℕ} (hp : Counts p n) (hq : Counts q k) :
    Counts (merge4 min max p q) (fun t => n t + k t) := by
  intro t
  obtain ⟨p1, p2, p3, p4⟩ := hp t
  obtain ⟨q1, q2, q3, q4⟩ := hq t
  simp only [merge4, min_le_iff, max_le_iff, p1, p2, p3, p4, q1, q2, q3, q4]
  refine ⟨?_, ?_, ?_, ?_⟩ <;> omega

end Cert.Nearest

end
-- ==== Proof.Pop.lean ====
/-
  The kernel's repeated taking of the smallest distance.

  Of each of sixteen classes of points the kernel holds the four smallest distances in order. One step drops the head of
  every class whose head is at most a threshold (`pop`), the threshold being the smallest head (`top`). Where the sixteen
  nearest points have different distances and no class holds more than four of them, the n-th step drops exactly the n-th
  nearest point, so that after fifteen steps the smallest head is the sixteenth smallest distance (`top_steps`).
-/
module

public import proofs.«01_k».proof.Proof.Network

@[expose] public section

noncomputable section

namespace Cert.Nearest

/-- For each of the sixteen classes, its four smallest distances. -/
abbrev Lists := Fin 16 → Four EReal

/-- Drop the head of every class whose head is at most `thr`. -/
def pop (thr : EReal) (L : Lists) : Lists := fun c =>
  if (L c).a ≤ thr then ⟨(L c).b, (L c).c, (L c).d, ⊤⟩ else L c

/-- The smallest head. -/
def top (L : Lists) : EReal := Finset.univ.inf fun c => (L c).a

/-- Drop the smallest head. -/
def popTop (L : Lists) : Lists := pop (top L) L

/-- The k-th entry of a quadruple, `⊤` past its end. -/
def entry (s : Four EReal) : ℕ → EReal
  | 0 => s.a
  | 1 => s.b
  | 2 => s.c
  | 3 => s.d
  | _ => ⊤

/-- The lists left after `r c` heads of class `c` are dropped. -/
def dropped (M : Lists) (r : Fin 16 → ℕ) : Lists := fun c =>
  ⟨entry (M c) (r c), entry (M c) (r c + 1), entry (M c) (r c + 2), entry (M c) (r c + 3)⟩

theorem dropped_zero (M : Lists) : dropped M (fun _ => 0) = M := rfl

/-- One step drops one more head of the classes whose head is at most the threshold. -/
theorem pop_dropped (thr : EReal) (M : Lists) (r : Fin 16 → ℕ) :
    pop thr (dropped M r) = dropped M (fun c => if entry (M c) (r c) ≤ thr then r c + 1 else r c) := by
  funext c
  by_cases h : entry (M c) (r c) ≤ thr
  · simp only [pop, dropped, h, if_true]
    rfl
  · simp only [pop, dropped, h, if_false]

/-- An entry is at most a finite bound exactly when it is one of the four and enough members of the family are. -/
theorem entry_le_iff {s : Four EReal} {n : EReal → ℕ} (hs : Counts s n) {t : EReal} (ht : t < ⊤) (k : ℕ) :
    entry s k ≤ t ↔ k < 4 ∧ k + 1 ≤ n t := by
  obtain ⟨h1, h2, h3, h4⟩ := hs t
  match k with
  | 0 => simp [entry, h1]
  | 1 => simp [entry, h2]
  | 2 => simp [entry, h3]
  | 3 => simp [entry, h4]
  | k + 4 => simp [entry, ht.ne]

section

variable (d : Fin 1024 → EReal) (σ : Fin 16 → Fin 1024)

/-- How many points of class `c` are at distance at most `t`. -/
def count (c : Fin 16) (t : EReal) : ℕ := (Finset.univ.filter fun j : Fin 1024 => j.val % 16 = c.val ∧ d j ≤ t).card

/-- How many of the `n` nearest points are of class `c`. -/
def taken (n : ℕ) (c : Fin 16) : ℕ := (Finset.univ.filter fun m : Fin 16 => m.val < n ∧ (σ m).val % 16 = c.val).card

/-- `σ` lists the sixteen nearest points, nearest first: their distances increase strictly and every other point is
    farther than all of them. -/
structure Lists16 : Prop where
  mono : StrictMono fun m => d (σ m)
  rest : ∀ j, (∃ m, σ m = j) ∨ ∀ m, d (σ m) < d j

variable {d σ}

theorem Lists16.inj (h : Lists16 d σ) : Function.Injective σ := fun a b e => h.mono.injective (congrArg d e)

/-- The points of class `c` at most as far as the n-th nearest are the first n + 1 of the nearest that are of class `c`. -/
theorem Lists16.count_eq (h : Lists16 d σ) (n : Fin 16) (c : Fin 16) : count d c (d (σ n)) = taken σ (n.val + 1) c := by
  unfold count taken
  rw [← Finset.card_image_of_injective _ h.inj]
  congr 1
  ext j
  simp only [Finset.mem_filter, Finset.mem_univ, true_and, Finset.mem_image]
  constructor
  · rintro ⟨hc, hd⟩
    rcases h.rest j with ⟨m, rfl⟩ | hf
    · have := h.mono.le_iff_le.mp hd
      exact ⟨m, ⟨by omega, hc⟩, rfl⟩
    · exact absurd hd (not_le.mpr (hf n))
  · rintro ⟨m, ⟨hm, hc⟩, rfl⟩
    exact ⟨hc, h.mono.monotone (by omega : m ≤ n)⟩

/-- Below the n-th nearest distance there are only the first n of the nearest. -/
theorem Lists16.count_le (h : Lists16 d σ) (n : Fin 16) (c : Fin 16) {t : EReal} (ht : t < d (σ n)) :
    count d c t ≤ taken σ n.val c := by
  unfold count taken
  rw [← Finset.card_image_of_injective _ h.inj]
  refine Finset.card_le_card fun j => ?_
  simp only [Finset.mem_filter, Finset.mem_univ, true_and, Finset.mem_image]
  rintro ⟨hc, hd⟩
  rcases h.rest j with ⟨m, rfl⟩ | hf
  · have := h.mono.lt_iff_lt.mp (lt_of_le_of_lt hd ht)
    exact ⟨m, ⟨this, hc⟩, rfl⟩
  · exact absurd (hf n) (not_lt.mpr (hd.trans ht.le))

theorem taken_succ (n : Fin 16) (c : Fin 16) :
    taken σ (n.val + 1) c = if (σ n).val % 16 = c.val then taken σ n.val c + 1 else taken σ n.val c := by
  unfold taken
  have hs : (Finset.univ.filter fun m : Fin 16 => m.val < n.val + 1 ∧ (σ m).val % 16 = c.val) =
      if (σ n).val % 16 = c.val then insert n (Finset.univ.filter fun m : Fin 16 => m.val < n.val ∧ (σ m).val % 16 = c.val)
      else Finset.univ.filter fun m : Fin 16 => m.val < n.val ∧ (σ m).val % 16 = c.val := by
    ext m
    split
    · rename_i hc
      simp only [Finset.mem_filter, Finset.mem_univ, true_and, Finset.mem_insert]
      constructor
      · rintro ⟨h1, h2⟩
        by_cases e : m = n
        · exact Or.inl e
        · exact Or.inr ⟨by omega, h2⟩
      · rintro (rfl | ⟨h1, h2⟩)
        · exact ⟨by omega, hc⟩
        · exact ⟨by omega, h2⟩
    · rename_i hc
      simp only [Finset.mem_filter, Finset.mem_univ, true_and]
      constructor
      · rintro ⟨h1, h2⟩
        have : m ≠ n := by rintro rfl; exact hc h2
        exact ⟨by omega, h2⟩
      · rintro ⟨h1, h2⟩
        exact ⟨by omega, h2⟩
  rw [hs]
  split
  · rw [Finset.card_insert_of_notMem (by simp)]
  · rfl

theorem taken_le (n : ℕ) (c : Fin 16) :
    taken σ n c ≤ (Finset.univ.filter fun m : Fin 16 => (σ m).val % 16 = c.val).card := by
  unfold taken
  refine Finset.card_le_card fun m => ?_
  simp only [Finset.mem_filter, Finset.mem_univ, true_and]
  exact fun h => h.2

variable {M : Lists} (h : Lists16 d σ) (hM : ∀ c, Counts (M c) (count d c)) (hfin : ∀ j, d j < ⊤)
  (hroom : ∀ c : Fin 16, (Finset.univ.filter fun m : Fin 16 => (σ m).val % 16 = c.val).card ≤ 4)
include h hM hfin hroom

/-- After n steps the head of class `c` is at most the n-th nearest distance exactly when that point is of class `c`. -/
theorem head_le_iff (n : Fin 16) (c : Fin 16) :
    entry (M c) (taken σ n.val c) ≤ d (σ n) ↔ (σ n).val % 16 = c.val := by
  rw [entry_le_iff (hM c) (hfin _), h.count_eq n c, taken_succ n c]
  have h4 := (taken_le (σ := σ) (n.val + 1) c).trans (hroom c)
  rw [taken_succ n c] at h4
  split at h4
  · rename_i hc
    simp only [hc, if_true, iff_true]
    omega
  · rename_i hc
    simp only [hc, if_false, iff_false]
    omega

/-- After n steps the smallest head is the n-th nearest distance. -/
theorem top_dropped (n : Fin 16) : top (dropped M (taken σ n.val)) = d (σ n) := by
  unfold top dropped
  refine le_antisymm ?_ (Finset.le_inf fun c _ => ?_)
  · exact (Finset.inf_le (Finset.mem_univ (⟨(σ n).val % 16, Nat.mod_lt _ (by decide)⟩ : Fin 16))).trans
      ((head_le_iff h hM hfin hroom n _).mpr rfl)
  · by_contra hlt
    have hlt := not_le.mp hlt
    have h1 := (entry_le_iff (hM c) (hlt.trans (hfin _)) _).mp le_rfl
    have h2 := h.count_le n c hlt
    omega

theorem popTop_dropped (n : Fin 16) : popTop (dropped M (taken σ n.val)) = dropped M (taken σ (n.val + 1)) := by
  unfold popTop
  rw [top_dropped h hM hfin hroom n, pop_dropped]
  congr 1
  funext c
  rw [taken_succ n c]
  by_cases hc : (σ n).val % 16 = c.val
  · rw [if_pos hc, if_pos ((head_le_iff h hM hfin hroom n c).mpr hc)]
  · rw [if_neg hc, if_neg fun hle => hc ((head_le_iff h hM hfin hroom n c).mp hle)]

theorem iterate_popTop (n : ℕ) (hn : n ≤ 16) : popTop^[n] M = dropped M (taken σ n) := by
  induction n with
  | zero =>
    have : taken σ 0 = fun _ => 0 := by funext c; simp [taken]
    rw [this]; rfl
  | succ n ih =>
    rw [Function.iterate_succ_apply', ih (by omega)]
    exact popTop_dropped h hM hfin hroom ⟨n, by omega⟩

/-- The kernel's fifteen steps, of which the first drops the heads that are at most zero: the smallest head left is the
    sixteenth smallest distance, if no distance is negative and some distance is zero. -/
theorem top_steps (hnn : ∀ j, 0 ≤ d j) (hz : ∃ j, d j = 0) : top (popTop^[14] (pop 0 M)) = d (σ 15) := by
  have h0 : d (σ 0) = 0 := by
    obtain ⟨j, hj⟩ := hz
    refine le_antisymm ?_ (hnn _)
    rcases h.rest j with ⟨m, rfl⟩ | hf
    · exact hj ▸ h.mono.monotone (Fin.zero_le m)
    · exact hj ▸ (hf 0).le
  have ht : pop 0 M = popTop M := by
    have := top_dropped h hM hfin hroom 0
    rw [show taken σ (0 : Fin 16).val = fun _ => 0 by funext c; simp [taken], dropped_zero, h0] at this
    unfold popTop
    rw [this]
  rw [ht, ← Function.iterate_succ_apply, iterate_popTop h hM hfin hroom 15 (by decide)]
  exact top_dropped h hM hfin hroom 15

end

/-- What is summed over the points at most as far as the sixteenth nearest is summed over the sixteen nearest. -/
theorem Lists16.sum_eq {d : Fin 1024 → EReal} {σ : Fin 16 → Fin 1024} (h : Lists16 d σ) {A : Type} [AddCommMonoid A]
    (f : Fin 1024 → A) : (∑ j, if d j ≤ d (σ 15) then f j else 0) = ∑ m, f (σ m) := by
  rw [← Finset.sum_filter]
  have hs : (Finset.univ.filter fun j => d j ≤ d (σ 15)) = Finset.univ.image σ := by
    ext j
    simp only [Finset.mem_filter, Finset.mem_univ, true_and, Finset.mem_image]
    constructor
    · intro hd
      rcases h.rest j with hm | hf
      · exact hm
      · exact absurd hd (not_le.mpr (hf 15))
    · rintro ⟨m, rfl⟩
      exact h.mono.monotone (Fin.le_last m)
  rw [hs, Finset.sum_image fun a _ b _ e => h.inj e]

end Cert.Nearest

end
-- ==== Proof.Sorted.lean ====
/-
  The positions a top-k of the negated distances returns.

  `order x` is the stable sort of 1024 values, the greatest first, as a function from places to positions. A top-k over the
  last axis of a four-axis array holds, at place t, the value at position `order _ t` and that position (`topK_value`,
  `topK_index`). Where the first seventeen sorted values decrease strictly, the first sixteen positions list the sixteen
  nearest points in the sense of `Lists16` (`lists16_order`).
-/
module

public import proofs.«01_k».proof.Proof.Pop
public import Idealize.ShloMosaic.Lib.SortFacts

@[expose] public section

noncomputable section

namespace Cert.Nearest

open Idealize.ShloMosaic

/-- The positions of 1024 values in the order of a stable sort that puts the greatest first. -/
def order (x : Fin 1024 → EReal) : Fin 1024 → Fin 1024 :=
  sortedFrom fun k k' => FloatOps.cmpfTotal (F := Ideal) (φ := .f32) .gt (x k) (x k') == 1#1

theorem order_before (a b : EReal) : (FloatOps.cmpfTotal (F := Ideal) (φ := .f32) .gt a b == 1#1) = decide (b < a) := by
  rw [Ideal.cmpfTotal_def]
  by_cases h : b < a <;> simp [Ideal.cmp, CmpDirection.ordered, h]

theorem order_injective (x : Fin 1024 → EReal) : Function.Injective (order x) := sortedFrom_injective _

theorem order_surjective (x : Fin 1024 → EReal) : Function.Surjective (order x) := sortedFrom_surjective _

/-- Sorted values do not increase. -/
theorem order_antitone (x : Fin 1024 → EReal) (i j : Fin 1024) (h : i < j) : x (order x j) ≤ x (order x i) := by
  unfold order
  simp only [order_before]
  have hs := sortedFrom_noInversion (fun k k' => decide (x k' < x k)) (fun k k' => decide (x k' < x k))
    (fun a b h => by simpa using (of_decide_eq_true h).le) (fun a b h => h)
    (fun a b c h1 h2 => by simp only [decide_eq_false_iff_not, not_lt] at *; exact h1.trans h2) i j h
  simpa using hs

/-- The first sixteen positions. -/
def first16 (x : Fin 1024 → EReal) (m : Fin 16) : Fin 1024 := order x ⟨m.val, by omega⟩

/-- If the first seventeen sorted negated distances decrease strictly, the first sixteen positions are those of the
    sixteen nearest points. -/
theorem lists16_order (d : Fin 1024 → EReal)
    (h : ∀ t : Fin 16, -d (order (fun j => -d j) ⟨t.val + 1, by omega⟩) < -d (order (fun j => -d j) ⟨t.val, by omega⟩)) :
    Lists16 d (first16 fun j => -d j) := by
  have hlt : ∀ t : Fin 16, d (order (fun j => -d j) ⟨t.val, by omega⟩) < d (order (fun j => -d j) ⟨t.val + 1, by omega⟩) :=
    fun t => EReal.neg_lt_neg_iff.mp (h t)
  have hmono : StrictMono fun m => d (first16 (fun j => -d j) m) := by
    refine Fin.strictMono_iff_lt_succ (n := 15) |>.mpr fun i => ?_
    exact hlt ⟨i.val, by omega⟩
  refine ⟨hmono, fun j => ?_⟩
  obtain ⟨k, rfl⟩ := order_surjective (fun j => -d j) j
  by_cases hk : k.val < 16
  · exact Or.inl ⟨⟨k.val, hk⟩, rfl⟩
  · refine Or.inr fun m => ?_
    have h15 : d (first16 (fun j => -d j) m) ≤ d (first16 (fun j => -d j) 15) := hmono.monotone (Fin.le_last m)
    have h16 := hlt 15
    have hk' : d (order (fun j => -d j) ⟨16, by omega⟩) ≤ d (order (fun j => -d j) k) := by
      rcases Nat.lt_or_ge 16 k.val with hl | hl
      · exact EReal.neg_le_neg_iff.mp (order_antitone (fun j => -d j) ⟨16, by omega⟩ k hl)
      · have : k = ⟨16, by omega⟩ := Fin.ext (by simp; omega)
        rw [this]
    exact (lt_of_le_of_lt h15 h16).trans_le hk'

theorem along_ix4 {A B C N : ℕ} (hd : 3 < (⟨4, ![A, B, C, N]⟩ : Shape).rank) (a : Fin A) (b : Fin B) (q : Fin C) (t : Fin N)
    (k : Fin ((⟨4, ![A, B, C, N]⟩ : Shape).size ⟨3, hd⟩)) :
    (ix4 a b q t : (⟨4, ![A, B, C, N]⟩ : Shape).Idx).along ⟨3, hd⟩ k = ix4 a b q (k : Fin N) := by
  funext i
  unfold Shape.Idx.along
  match i with
  | ⟨0, _⟩ => rfl
  | ⟨1, _⟩ => rfl
  | ⟨2, _⟩ => rfl
  | ⟨3, _⟩ => rfl

/-- The index of the operand from which a slice at offset zero takes its entry. -/
theorem slice_zero_apply {A B C N K : ℕ} (hK : K ≤ N) {α : Type} (v : (⟨4, ![A, B, C, N]⟩ : Shape).Idx → α)
    (h : (⟨4, ![A, B, C, N]⟩ : Shape).Slices (fun _ => 0) ⟨4, ![A, B, C, K]⟩) (a : Fin A) (b : Fin B) (q : Fin C) (t : Fin K) :
    extractStridedSlice ⟨4, ![A, B, C, K]⟩ (fun _ => 0) v h (ix4 a b q t) = v (ix4 a b q ⟨t.val, by omega⟩) := by
  unfold extractStridedSlice
  congr 1
  funext i
  apply Fin.ext
  match i with
  | ⟨0, _⟩ => exact Nat.zero_add _
  | ⟨1, _⟩ => exact Nat.zero_add _
  | ⟨2, _⟩ => exact Nat.zero_add _
  | ⟨3, _⟩ => exact Nat.zero_add _

/-- A top-k over the last axis at place t: the value and the position that the stable sort puts there. -/
theorem topK_apply {A B C N K : ℕ} (hK : K ≤ N) {α : Type} (gt : α → α → BitVec 1) (x : (⟨4, ![A, B, C, N]⟩ : Shape).Idx → α)
    (h : (⟨4, ![A, B, C, N]⟩ : Shape).Slices (fun _ => 0) ⟨4, ![A, B, C, K]⟩) (a : Fin A) (b : Fin B) (q : Fin C) (t : Fin K)
    (p : Fin N) (hp : sortedFrom (fun k k' => gt (x (ix4 a b q k)) (x (ix4 a b q k')) == 1#1) ⟨t.val, by omega⟩ = p) :
    (Host.topK ⟨4, ![A, B, C, K]⟩ 3 gt x h).1 (ix4 a b q t) = x (ix4 a b q p) ∧
    (Host.topK ⟨4, ![A, B, C, K]⟩ 3 gt x h).2 (ix4 a b q t) = BitVec.ofNat 32 p.val := by
  have hd : 3 < (⟨4, ![A, B, C, N]⟩ : Shape).rank := by show 3 < 4; decide
  unfold Host.topK Host.sort2
  simp only [dif_pos hd]
  rw [slice_zero_apply hK, slice_zero_apply hK]
  simp only [along_ix4 hd]
  have hp' : sortedFrom (fun k k' => gt (x (ix4 a b q k)) (x (ix4 a b q k')) == 1#1)
      ((ix4 a b q ⟨t.val, by omega⟩ : (⟨4, ![A, B, C, N]⟩ : Shape).Idx) ⟨3, hd⟩) = p := hp
  constructor
  · exact congrArg (fun p => x (ix4 a b q p)) hp'
  · exact congrArg (fun p : Fin N => BitVec.ofNat 32 p.val) hp'

/-- The value a top-k of extended reals over the last axis holds at place t. -/
theorem topK_value {A B C K : ℕ} (hK : K ≤ 1024) (x : FVec Ideal ⟨4, ![A, B, C, 1024]⟩ .f32)
    (h : (⟨4, ![A, B, C, 1024]⟩ : Shape).Slices (fun _ => 0) ⟨4, ![A, B, C, K]⟩) (a : Fin A) (b : Fin B) (q : Fin C) (t : Fin K) :
    (Host.topK ⟨4, ![A, B, C, K]⟩ 3 (FloatOps.cmpfTotal .gt) x h).1 (ix4 a b q t) =
      x (ix4 a b q (order (fun j => x (ix4 a b q j)) ⟨t.val, by omega⟩)) :=
  (topK_apply hK _ x h a b q t _ rfl).1

/-- The position a top-k of extended reals over the last axis holds at place t. -/
theorem topK_index {A B C K : ℕ} (hK : K ≤ 1024) (x : FVec Ideal ⟨4, ![A, B, C, 1024]⟩ .f32)
    (h : (⟨4, ![A, B, C, 1024]⟩ : Shape).Slices (fun _ => 0) ⟨4, ![A, B, C, K]⟩) (a : Fin A) (b : Fin B) (q : Fin C) (t : Fin K) :
    (Host.topK ⟨4, ![A, B, C, K]⟩ 3 (FloatOps.cmpfTotal .gt) x h).2 (ix4 a b q t) =
      BitVec.ofNat 32 (order (fun j => x (ix4 a b q j)) ⟨t.val, by omega⟩).val :=
  (topK_apply hK _ x h a b q t _ rfl).2

end Cert.Nearest

end
-- ==== Proof.Mask.lean ====
module
public import proofs.«01_k».proof.Proof.Sorted
public import proofs.«01_k».proof.Proof.Gen.On_clear
public import Idealize.ShloMosaic.Lib.IndicatorCount

/-! What the mask `clear` says of one query: its seventeen nearest points lie at strictly increasing distances, and no
    residue class mod 16 holds more than four of the sixteen nearest. -/

@[expose] public section
set_option maxRecDepth 16384
noncomputable section
namespace Cert.Nearest
open Idealize.ShloMosaic

/-- The squared distance of points i and j. -/
def dist (pos : Fin 1024 → Fin 3 → EReal) (i j : Fin 1024) : EReal :=
  ∑ c : Fin 3, (pos i c - pos j c) * (pos i c - pos j c)

/-- A conjunction of bits, started at one, is one only if every bit is. -/
theorem fold_andi_true {n : ℕ} (f : Fin n → BitVec 1) (h : (Finset.univ : Finset (Fin n)).fold IntOp.andi (1#1) f = 1#1)
    (k : Fin n) : f k = 1#1 := by
  have key : ∀ S : Finset (Fin n), S.fold IntOp.andi (1#1) f = 1#1 → ∀ k ∈ S, f k = 1#1 := by
    classical
    intro S
    induction S using Finset.induction_on with
    | empty => intro _ k hk; simp at hk
    | insert a S ha ih =>
      rw [Finset.fold_insert ha]
      intro h k hk
      have hb : ∀ x y : BitVec 1, IntOp.andi x y = 1#1 → x = 1#1 ∧ y = 1#1 := by decide
      obtain ⟨h1, h2⟩ := hb _ _ h
      rcases Finset.mem_insert.mp hk with rfl | hk
      · exact h1
      · exact ih h2 k hk
  exact key _ h k (Finset.mem_univ k)

/-- Two positions below 1024 have equal low four bits exactly when they are equal mod 16. -/
theorem low_bits (p q : ℕ) (hp : p < 1024) (hq : q < 1024) :
    IntOp.cmpi .eq (IntOp.andi (BitVec.ofNat 32 p) 15#32) (IntOp.andi (BitVec.ofNat 32 q) 15#32) = 1#1 ↔ p % 16 = q % 16 := by
  have hl : ∀ r : ℕ, r < 1024 → (IntOp.andi (BitVec.ofNat 32 r) 15#32) = BitVec.ofNat 32 (r % 16) := by
    intro r hr
    unfold IntOp.andi
    apply BitVec.eq_of_toNat_eq
    rw [BitVec.toNat_and, BitVec.toNat_ofNat, BitVec.toNat_ofNat, BitVec.toNat_ofNat]
    rw [Nat.mod_eq_of_lt (by omega), Nat.mod_eq_of_lt (b := 2 ^ 32) (by omega), Nat.mod_eq_of_lt (b := 2 ^ 32) (by omega)]
    exact Nat.and_two_pow_sub_one_eq_mod r 4
  rw [hl p hp, hl q hq]
  show BitVec.ofBool (BitVec.ofNat 32 (p % 16) == BitVec.ofNat 32 (q % 16)) = 1#1 ↔ _
  constructor
  · intro h
    by_contra hne
    have : (BitVec.ofNat 32 (p % 16) == BitVec.ofNat 32 (q % 16)) = false := by
      rw [beq_eq_false_iff_ne]
      intro e
      apply hne
      have := congrArg BitVec.toNat e
      rw [BitVec.toNat_ofNat, BitVec.toNat_ofNat] at this
      omega
    rw [this] at h
    exact absurd h (by decide)
  · intro h; rw [h]; simp

/-- A count of at most sixteen ones read as a signed word is at most four only if the count is. -/
theorem count_le_four (f : Fin 16 → BitVec 1)
    (h : IntOp.cmpi .sle ((Finset.univ : Finset (Fin 16)).fold IntOp.addi (0#32) fun k => (f k).setWidth 32) 4#32 = 1#1) :
    (Finset.univ.filter fun k => f k = 1#1).card ≤ 4 := by
  rw [IndicatorCount.fold_addi_setWidth_eq_card] at h
  have hc : (Finset.univ.filter fun k => f k = 1#1).card ≤ 16 := by
    simpa using Finset.card_le_univ (Finset.univ.filter fun k => f k = 1#1)
  revert h hc
  generalize (Finset.univ.filter fun k => f k = 1#1).card = n
  intro h hc
  by_contra hn
  interval_cases n <;> first | omega | exact absurd h (by decide)

/-- What the mask says of a query's order of points. -/
structure Clear (pos : Fin 1024 → Fin 3 → EReal) (i : Fin 1024) : Prop where
  step : ∀ t : Fin 16, -dist pos i (order (fun j => -dist pos i j) ⟨t.val + 1, by omega⟩) <
    -dist pos i (order (fun j => -dist pos i j) ⟨t.val, by omega⟩)
  room : ∀ c : Fin 16, (Finset.univ.filter fun m : Fin 16 =>
    (first16 (fun j => -dist pos i j) m).val % 16 = c.val).card ≤ 4

/-- If each of the first sixteen has at most four of them in its own class, every class has at most four. -/
theorem room_of_each (p : Fin 16 → ℕ) (h : ∀ s, (Finset.univ.filter fun m : Fin 16 => p s % 16 = p m % 16).card ≤ 4) (c : ℕ) :
    (Finset.univ.filter fun m : Fin 16 => p m % 16 = c).card ≤ 4 := by
  by_cases he : ∃ s, p s % 16 = c
  · obtain ⟨s, rfl⟩ := he
    simpa [eq_comm] using h s
  · have : (Finset.univ.filter fun m : Fin 16 => p m % 16 = c) = ∅ := by
      ext m; simp only [Finset.mem_filter, Finset.mem_univ, true_and, Finset.notMem_empty, iff_false]
      exact fun e => he ⟨m, e⟩
    rw [this]; simp

section
open Cert.On_clear
/-- The negated squared distances, as an array. -/
def negDist (p : FVec Ideal S2x4x1024x3 .f32) : FVec Ideal S2x4x1024x1024 .f32 :=
  let d := subf (broadcastInDim S2x4x1024x1024x3 ![0, 1, 2, 3, 4] Gen.facts.bcast_S2x4x1024x1x3_S2x4x1024x1024x3_0_1_2_3_4
        (broadcastInDim S2x4x1024x1x3 ![0, 1, 2, 4] Gen.facts.bcast_S2x4x1024x3_S2x4x1024x1x3_0_1_2_4 p))
      (broadcastInDim S2x4x1024x1024x3 ![0, 1, 2, 3, 4] Gen.facts.bcast_S2x4x1x1024x3_S2x4x1024x1024x3_0_1_2_3_4
        (broadcastInDim S2x4x1x1024x3 ![0, 1, 3, 4] Gen.facts.bcast_S2x4x1024x3_S2x4x1x1024x3_0_1_3_4 p))
  Host.negf (Host.reduceAdd (mulf d d) (constant S_ .f32 0x00000000#32) Gen.facts.reducesTo_S2x4x1024x1024x3_S2x4x1024x1024_d4 Gen.facts.h_S_)

/-- The negated squared distance read at a pair of points. -/
theorem negDist_apply (p : FVec Ideal S2x4x1024x3 .f32) (a : Fin 2) (b : Fin 4) (i j : Fin 1024) :
    negDist p (ix4 a b i j) = -dist (fun j c => p (ix4 a b j c)) i j := by
  pointwise [negDist, dist]

/-- The mask read at a query. -/
theorem clear_of_mask (x0 : FVec Ideal S2x4x1024x128 .f32) (x1) (x2) (x3) (x4) (x5) (x6) (x7) (x8) (x9) (x10) (x11) (x12)
    (x13) (x14) (x15) (g : Fin 8) (q : Fin 1024) (c : Fin 128)
    (h : fn (F := Ideal) x0 x1 x2 x3 x4 x5 x6 x7 x8 x9 x10 x11 x12 x13 x14 x15 (ix3 g q c) = 1#1) :
    Clear (fun j c => x1 (ix4 ⟨g.val / 4, by omega⟩ ⟨g.val % 4, by omega⟩ j c)) q := by
  pointwise [fn, fn_part1] at h
  have hb : ∀ x y : BitVec 1, IntOp.andi x y = 1#1 → x = 1#1 ∧ y = 1#1 := by decide
  obtain ⟨h1, h2⟩ := hb _ _ h
  clear h hb
  have hx : (fun j => negDist x1 (ix4 (⟨g.val / 4, by omega⟩ : Fin 2) (⟨g.val % 4, by omega⟩ : Fin 4) q j)) =
      fun j => -dist (fun j c => x1 (ix4 (⟨g.val / 4, by omega⟩ : Fin 2) (⟨g.val % 4, by omega⟩ : Fin 4) j c)) q j :=
    funext fun j => negDist_apply x1 _ _ q j
  have hV := fun t : Fin 17 => topK_value (A := 2) (B := 4) (C := 1024) (K := 17) (by decide) (negDist x1)
    Gen.facts.sliceFits_S2x4x1024x1024_S2x4x1024x17 ⟨g.val / 4, by omega⟩ ⟨g.val % 4, by omega⟩ q t
  have hI := fun t : Fin 17 => topK_index (A := 2) (B := 4) (C := 1024) (K := 17) (by decide) (negDist x1)
    Gen.facts.sliceFits_S2x4x1024x1024_S2x4x1024x17 ⟨g.val / 4, by omega⟩ ⟨g.val % 4, by omega⟩ q t
  simp only [negDist_apply, hx] at hV hI
  constructor
  · intro t
    have h := fold_andi_true _ h1 t
    have hd : ∀ (P : Prop) [Decidable P], BitVec.ofBool (decide P) = 1#1 → P := by
      intro P _ hP
      by_contra hn
      rw [decide_eq_false hn] at hP
      exact absurd hP (by decide)
    have hlt := hd _ h
    have e : (⟨t.val + 1, by omega⟩ : Fin 1024) = ⟨1 + t.val, by omega⟩ := Fin.ext (Nat.add_comm _ _)
    rw [e, ← hV ⟨1 + t.val, by omega⟩, ← hV ⟨t.val, by omega⟩]
    exact hlt
  · intro c
    unfold first16
    generalize order (fun j => -dist _ q j) = o at hI ⊢
    refine room_of_each (fun m => (o ⟨m.val, by omega⟩).val) (fun s => ?_) c.val
    have h := count_le_four _ (fold_andi_true _ h2 s)
    refine le_of_eq_of_le (congrArg Finset.card (Finset.filter_congr fun m _ => ?_)) h
    refine (low_bits (o ⟨s.val, by omega⟩).val (o ⟨m.val, by omega⟩).val (Fin.isLt _) (Fin.isLt _)).symm.trans ?_
    have hs := hI ⟨s.val, by omega⟩
    have hm := hI ⟨m.val, by omega⟩
    exact iff_of_eq (congrArg (· = 1#1) (congrArg₂ (fun x y => IntOp.cmpi .eq (IntOp.andi x 15#32) (IntOp.andi y 15#32))
      hs.symm hm.symm))
end
end Cert.Nearest
end
-- ==== Proof.RefArrays.lean ====
module
public import proofs.«01_k».proof.Proof.Mask
public import proofs.«01_k».proof.Proof.Gen.ReferenceIdeal.Run

/-! The reference's result term in named stages. -/

@[expose] public section
set_option maxRecDepth 16384
noncomputable section
namespace Cert.Nearest
open Idealize.ShloMosaic
open Cert.ReferenceIdeal Cert.ReferenceIdeal.Gen

/-- The sixteen nearest points' indices, a negative one wrapped round. -/
def neighbours (x1 : FVec Ideal S2x4x1024x3 .f32) : IVec S2x4x1024x16x1 32 :=
  let n := (Host.topK S2x4x1024x16 3 (FloatOps.cmpfTotal .gt) (negDist x1) sliceFits_S2x4x1024x1024_S2x4x1024x16).2
  broadcastInDim S2x4x1024x16x1 ![0, 1, 2, 3] bcast_S2x4x1024x16_S2x4x1024x16x1_0_1_2_3
    (select (cmpi .slt n (broadcastInDim S2x4x1024x16 ![] bcast_S_S2x4x1024x16 (constantI S_ 32 0#32)))
      (addi n (broadcastInDim S2x4x1024x16 ![] bcast_S_S2x4x1024x16 (constantI S_ 32 1024#32))) n)

/-- Features through square weights, a bias added. -/
def featureLayer (x0 : FVec Ideal S2x4x1024x128 .f32) (w : FVec Ideal S128x128 .f32) (b : FVec Ideal S128 .f32) :
    FVec Ideal S2x4x1024x128 .f32 :=
  addf (Host.dotGeneral dot_S2x4x1024x128_S128x128_S2x4x1024x128_3_0_012_1_n_n none x0 w)
    (broadcastInDim S2x4x1024x128 ![0, 1, 2, 3] bcast_S1x1x1x128_S2x4x1024x128_0_1_2_3 (broadcastInDim S1x1x1x128 ![3] bcast_S128_S1x1x1x128_3 b))

/-- Positions through their weights, a bias added. -/
def positionLayer (x1 : FVec Ideal S2x4x1024x3 .f32) (w : FVec Ideal S3x128 .f32) (b : FVec Ideal S128 .f32) :
    FVec Ideal S2x4x1024x128 .f32 :=
  addf (Host.dotGeneral dot_S2x4x1024x3_S3x128_S2x4x1024x128_3_0_012_1_n_n none x1 w)
    (broadcastInDim S2x4x1024x128 ![0, 1, 2, 3] bcast_S1x1x1x128_S2x4x1024x128_0_1_2_3 (broadcastInDim S1x1x1x128 ![3] bcast_S128_S1x1x1x128_3 b))

/-- A feature array's rows at the neighbours. -/
def rowsAt (a : FVec Ideal S2x4x1024x128 .f32) (n : IVec S2x4x1024x16x1 32) : FVec Ideal S2x4x1024x16x128 .f32 :=
  Host.gather gather_S2x4x1024x128_S2x4x1024x16x1_S2x4x1024x16x128_4_2_01_01_2_4_111128 a n

/-- The positions at the neighbours. -/
def positionsAt (a : FVec Ideal S2x4x1024x3 .f32) (n : IVec S2x4x1024x16x1 32) : FVec Ideal S2x4x1024x16x3 .f32 :=
  Host.gather gather_S2x4x1024x3_S2x4x1024x16x1_S2x4x1024x16x3_4_2_01_01_2_4_1113 a n

/-- The attention logits, of queries q, keys k at the neighbours, encodings p at the neighbours and positions pj at the neighbours. -/
def logits (q : FVec Ideal S2x4x1024x128 .f32) (k p : FVec Ideal S2x4x1024x16x128 .f32) (pj : FVec Ideal S2x4x1024x16x3 .f32)
    (x1 : FVec Ideal S2x4x1024x3 .f32) (x10 : FVec Ideal S3x128 .f32) (x11 : FVec Ideal S128 .f32)
    (x12 : FVec Ideal S128x1 .f32) (x13 : FVec Ideal S1 .f32) : FVec Ideal S2x4x1024x16 .f32 :=
  shapeCast _ (addf (Host.dotGeneral dot_S2x4x1024x16x128_S128x1_S2x4x1024x16x1_4_0_0123_1_n_n none
    (mulf (broadcastInDim S2x4x1024x16x128 ![0, 1, 2, 3, 4] bcast_S2x4x1024x1x128_S2x4x1024x16x128_0_1_2_3_4
        (broadcastInDim S2x4x1024x1x128 ![0, 1, 2, 4] bcast_S2x4x1024x128_S2x4x1024x1x128_0_1_2_4 q))
      (addf (addf k p) (addf (Host.dotGeneral dot_S2x4x1024x16x3_S3x128_S2x4x1024x16x128_4_0_0123_1_n_n none
          (subf pj (broadcastInDim S2x4x1024x16x3 ![0, 1, 2, 3, 4] bcast_S2x4x1024x1x3_S2x4x1024x16x3_0_1_2_3_4
            (broadcastInDim S2x4x1024x1x3 ![0, 1, 2, 4] bcast_S2x4x1024x3_S2x4x1024x1x3_0_1_2_4 x1))) x10)
        (broadcastInDim S2x4x1024x16x128 ![0, 1, 2, 3, 4] bcast_S1x1x1x1x128_S2x4x1024x16x128_0_1_2_3_4
          (broadcastInDim S1x1x1x1x128 ![4] bcast_S128_S1x1x1x1x128_4 x11))))) x12)
    (broadcastInDim S2x4x1024x16x1 ![0, 1, 2, 3, 4] bcast_S1x1x1x1x1_S2x4x1024x16x1_0_1_2_3_4
      (broadcastInDim S1x1x1x1x1 ![4] bcast_S1_S1x1x1x1x1_4 x13))) shapeCasts_S2x4x1024x16x1_S2x4x1024x16

/-- The logits less their largest, exponentiated. -/
def shifted (l : FVec Ideal S2x4x1024x16 .f32) : FVec Ideal S2x4x1024x16 .f32 :=
  Host.exp (subf l (broadcastInDim S2x4x1024x16 ![0, 1, 2, 3] bcast_S2x4x1024x1_S2x4x1024x16_0_1_2_3
    (broadcastInDim S2x4x1024x1 ![0, 1, 2] bcast_S2x4x1024_S2x4x1024x1_0_1_2
      (maximumf (broadcastInDim S2x4x1024 ![] bcast_S_S2x4x1024 (constant S_ .f32 0xFF800000#32))
        (Host.reduce FloatOps.maximumf l (constant S_ .f32 0xFF800000#32) reducesTo_S2x4x1024x16_S2x4x1024_d3 h_S_)))))

/-- The exponentials divided by their sum. -/
def normalised (e : FVec Ideal S2x4x1024x16 .f32) : FVec Ideal S2x4x1024x16 .f32 :=
  Host.divf e (broadcastInDim S2x4x1024x16 ![0, 1, 2, 3] bcast_S2x4x1024x1_S2x4x1024x16_0_1_2_3
    (broadcastInDim S2x4x1024x1 ![0, 1, 2] bcast_S2x4x1024_S2x4x1024x1_0_1_2
      (Host.reduceAdd e (constant S_ .f32 0x00000000#32) reducesTo_S2x4x1024x16_S2x4x1024_d3 h_S_)))

/-- The weighted values, the output weights, the rectification, and the features added back. -/
def finished (w : FVec Ideal S2x4x1024x16 .f32) (v : FVec Ideal S2x4x1024x16x128 .f32) (x0 : FVec Ideal S2x4x1024x128 .f32)
    (x14 : FVec Ideal S128x128 .f32) (x15 : FVec Ideal S128 .f32) : FVec Ideal S8x1024x128 .f32 :=
  shapeCast _ (addf x0 (maximumf (featureLayer (Host.reduceAdd (mulf
    (broadcastInDim S2x4x1024x16x128 ![0, 1, 2, 3, 4] bcast_S2x4x1024x16x1_S2x4x1024x16x128_0_1_2_3_4
      (broadcastInDim S2x4x1024x16x1 ![0, 1, 2, 3] bcast_S2x4x1024x16_S2x4x1024x16x1_0_1_2_3 w)) v)
      (constant S_ .f32 0x00000000#32) reducesTo_S2x4x1024x16x128_S2x4x1024x128_d3 h_S_) x14 x15)
    (broadcastInDim S2x4x1024x128 ![] bcast_S_S2x4x1024x128 (constant S_ .f32 0x00000000#32)))) shapeCasts_S2x4x1024x128_S8x1024x128

/-- The reference's result, of its sixteen arguments. -/
def refOut (x0 : FVec Ideal S2x4x1024x128 .f32) (x1 : FVec Ideal S2x4x1024x3 .f32) (x2 : FVec Ideal S128x128 .f32)
    (x3 : FVec Ideal S128 .f32) (x4 : FVec Ideal S128x128 .f32) (x5 : FVec Ideal S128 .f32) (x6 : FVec Ideal S128x128 .f32)
    (x7 : FVec Ideal S128 .f32) (x8 : FVec Ideal S3x128 .f32) (x9 : FVec Ideal S128 .f32) (x10 : FVec Ideal S3x128 .f32)
    (x11 : FVec Ideal S128 .f32) (x12 : FVec Ideal S128x1 .f32) (x13 : FVec Ideal S1 .f32) (x14 : FVec Ideal S128x128 .f32)
    (x15 : FVec Ideal S128 .f32) : FVec Ideal S8x1024x128 .f32 :=
  finished (normalised (shifted (logits (addf (featureLayer x0 x2 x3) (positionLayer x1 x8 x9))
      (rowsAt (featureLayer x0 x4 x5) (neighbours x1)) (rowsAt (positionLayer x1 x8 x9) (neighbours x1))
      (positionsAt x1 (neighbours x1)) x1 x10 x11 x12 x13)))
    (rowsAt (featureLayer x0 x6 x7) (neighbours x1)) x0 x14 x15

/-- The reference's result term is these stages. -/
theorem ref_stages (m : (ℓ : Loc nD τ sig) → Buf (Elt Ideal) ℓ) (c : Dev nD) : Cert.ReferenceIdeal.Value.res_main_v91 m c =
    refOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15)) := by
  unfold Cert.ReferenceIdeal.Value.res_main_v91 refOut finished normalised shifted logits rowsAt positionsAt positionLayer featureLayer neighbours negDist
  rfl

end Cert.Nearest
end
-- ==== Proof.RefRead.lean ====
module
public import proofs.«01_k».proof.Proof.RefArrays
public import proofs.«01_k».proof.Proof.Formulas

/-! The reference's stages read at an index. -/

@[expose] public section
set_option maxRecDepth 16384
noncomputable section
namespace Cert.Nearest
open Idealize.ShloMosaic

/-- A point's index as a signed word is itself. -/
theorem word_toInt (r : Fin 1024) : (BitVec.ofNat 32 r.val).toInt = (r.val : ℤ) := by
  have hr := r.isLt
  have e : (BitVec.ofNat 32 r.val).toNat = r.val := by rw [BitVec.toNat_ofNat]; omega
  rw [BitVec.toInt_eq_toNat_of_lt (by omega), e]

/-- Wrapping a negative index round leaves a point's index alone. -/
theorem word_wrap (r : Fin 1024) (w : BitVec 32) (h : w = BitVec.ofNat 32 r.val) :
    Scalar.select (IntOp.cmpi .slt w 0#32) (IntOp.addi w 1024#32) w = BitVec.ofNat 32 r.val := by
  have hs : IntOp.cmpi .slt w 0#32 = 0#1 := by
    subst h
    show BitVec.ofBool (decide ((BitVec.ofNat 32 r.val).toInt < (0#32).toInt)) = 0#1
    rw [word_toInt, decide_eq_false (by rw [show (0#32).toInt = 0 from rfl]; omega)]
    rfl
  rw [hs, h]
  rfl

/-- A gather of rows along the third axis, the first two axes batched: where the index word is r's, it reads row r. -/
theorem gather_rows {C : ℕ} {α : Type} (d : GatherDims ⟨4, ![2, 4, 1024, C]⟩ ⟨5, ![2, 4, 1024, 16, 1]⟩ ⟨5, ![2, 4, 1024, 16, C]⟩)
    (h1 : d.offsetDims = [4]) (h2 : d.collapsedSliceDims = [2]) (h3 : d.operandBatchingDims = [0, 1])
    (h4 : d.startIndicesBatchingDims = [0, 1]) (h5 : d.startIndexMap = [2]) (h6 : d.indexVectorDim = 4)
    (h7 : d.sliceSizes = ![1, 1, 1, C])
    (x : (⟨4, ![2, 4, 1024, C]⟩ : Shape).Idx → α) (n : IVec ⟨5, ![2, 4, 1024, 16, 1]⟩ 32) (a : Fin 2) (b : Fin 4) (i : Fin 1024) (t : Fin 16)
    (c : Fin C) (r : Fin 1024) (h : n (ix5 a b i t 0) = BitVec.ofNat 32 r.val) :
    x (d.operandIdx (ix5 a b i t c) n) = x (ix4 a b r c) := by
  obtain ⟨_, _, _, _, _, _, _, wf⟩ := d
  simp only at h1 h2 h3 h4 h5 h6 h7
  subst h1 h2 h3 h4 h5 h6 h7
  refine congrArg x ?_
  funext k
  apply Fin.ext
  fin_cases k
  · show 0 + a.val + 0 = a.val
    omega
  · show 0 + b.val + 0 = b.val
    omega
  · have hs : ∀ e : Fin 1, GatherDims.siIdx (s := ⟨4, ![2, 4, 1024, C]⟩) (si := ⟨5, ![2, 4, 1024, 16, 1]⟩)
        (t := ⟨5, ![2, 4, 1024, 16, C]⟩) ⟨[4], [2], [0, 1], [0, 1], [2], 4, ![1, 1, 1, C], wf⟩ (ix5 a b i t c) e = ix5 a b i t 0 := by
      intro e
      obtain rfl : e = 0 := Subsingleton.elim _ _
      funext k
      fin_cases k <;> rfl
    show min (n (GatherDims.siIdx (s := ⟨4, ![2, 4, 1024, C]⟩) (si := ⟨5, ![2, 4, 1024, 16, 1]⟩)
        (t := ⟨5, ![2, 4, 1024, 16, C]⟩) ⟨[4], [2], [0, 1], [0, 1], [2], 4, ![1, 1, 1, C], wf⟩ (ix5 a b i t c) 0)).toInt.toNat 1023 + 0 + 0 = r.val
    rw [hs, h, word_toInt, Int.toNat_natCast]
    have hr := r.isLt
    omega
  · show 0 + 0 + c.val = c.val
    omega

open Cert.ReferenceIdeal Cert.ReferenceIdeal.Gen

/-- The t-th neighbour of point i is the t-th point in the order of distance. -/
theorem neighbours_apply (x1 : FVec Ideal S2x4x1024x3 .f32) (a : Fin 2) (b : Fin 4) (i : Fin 1024) (t : Fin 16) :
    neighbours x1 (ix5 a b i t 0) =
      BitVec.ofNat 32 (first16 (fun j => -dist (fun j c => x1 (ix4 a b j c)) i j) t).val := by
  pointwise [neighbours]
  refine word_wrap _ _ ?_
  have hx : (fun j => negDist x1 (ix4 a b i j)) = fun j => -dist (fun j c => x1 (ix4 a b j c)) i j :=
    funext fun j => negDist_apply x1 a b i j
  have hI := topK_index (A := 2) (B := 4) (C := 1024) (K := 16) (by decide) (negDist x1)
    sliceFits_S2x4x1024x1024_S2x4x1024x16 a b i t
  exact hI.trans (congrArg (fun f => BitVec.ofNat 32 (order f ⟨t.val, by omega⟩).val) hx)

/-- A feature array's row at a neighbour. -/
theorem rowsAt_apply (x : FVec Ideal S2x4x1024x128 .f32) (n : IVec S2x4x1024x16x1 32) (a : Fin 2) (b : Fin 4) (i : Fin 1024)
    (t : Fin 16) (c : Fin 128) (r : Fin 1024) (h : n (ix5 a b i t 0) = BitVec.ofNat 32 r.val) :
    rowsAt x n (ix5 a b i t c) = x (ix4 a b r c) :=
  gather_rows gather_S2x4x1024x128_S2x4x1024x16x1_S2x4x1024x16x128_4_2_01_01_2_4_111128 rfl rfl rfl rfl rfl rfl rfl x n a b i t c r h

/-- The position of a neighbour. -/
theorem positionsAt_apply (x : FVec Ideal S2x4x1024x3 .f32) (n : IVec S2x4x1024x16x1 32) (a : Fin 2) (b : Fin 4) (i : Fin 1024)
    (t : Fin 16) (c : Fin 3) (r : Fin 1024) (h : n (ix5 a b i t 0) = BitVec.ofNat 32 r.val) :
    positionsAt x n (ix5 a b i t c) = x (ix4 a b r c) :=
  gather_rows gather_S2x4x1024x3_S2x4x1024x16x1_S2x4x1024x16x3_4_2_01_01_2_4_1113 rfl rfl rfl rfl rfl rfl rfl x n a b i t c r h

/-- A feature layer read at a point. -/
theorem featureLayer_apply (x0 : FVec Ideal S2x4x1024x128 .f32) (w : FVec Ideal S128x128 .f32) (v : FVec Ideal S128 .f32)
    (a : Fin 2) (b : Fin 4) (i : Fin 1024) (h : Fin 128) :
    featureLayer x0 w v (ix4 a b i h) = ∑ k : Fin 128, x0 (ix4 a b i k) * w (ix2 k h) + v (ix1 h) := by
  pointwise [featureLayer]

/-- A position layer read at a point. -/
theorem positionLayer_apply (x1 : FVec Ideal S2x4x1024x3 .f32) (w : FVec Ideal S3x128 .f32) (v : FVec Ideal S128 .f32)
    (a : Fin 2) (b : Fin 4) (i : Fin 1024) (h : Fin 128) :
    positionLayer x1 w v (ix4 a b i h) = ∑ k : Fin 3, x1 (ix4 a b i k) * w (ix2 k h) + v (ix1 h) := by
  pointwise [positionLayer]

/-- The logits read at a query and a place. -/
theorem logits_apply (q : FVec Ideal S2x4x1024x128 .f32) (k p : FVec Ideal S2x4x1024x16x128 .f32) (pj : FVec Ideal S2x4x1024x16x3 .f32)
    (x1 : FVec Ideal S2x4x1024x3 .f32) (x10 : FVec Ideal S3x128 .f32) (x11 : FVec Ideal S128 .f32)
    (x12 : FVec Ideal S128x1 .f32) (x13 : FVec Ideal S1 .f32) (a : Fin 2) (b : Fin 4) (i : Fin 1024) (t : Fin 16) :
    logits q k p pj x1 x10 x11 x12 x13 (ix4 a b i t) = ∑ h : Fin 128, q (ix4 a b i h) * ((k (ix5 a b i t h) + p (ix5 a b i t h)) +
      (∑ c : Fin 3, (pj (ix5 a b i t c) - x1 (ix4 a b i c)) * x10 (ix2 c h) + x11 (ix1 h))) * x12 (ix2 h 0) + x13 (ix1 0) := by
  pointwise [logits]

/-- The normalised exponentials of the logits read at a query and a place. -/
theorem normalised_apply (l : FVec Ideal S2x4x1024x16 .f32) (a : Fin 2) (b : Fin 4) (i : Fin 1024) (t : Fin 16) :
    normalised (shifted l) (ix4 a b i t) = Ideal.div (Ideal.exp (l (ix4 a b i t) - largest fun s => l (ix4 a b i s)))
      (∑ s, Ideal.exp (l (ix4 a b i s) - largest fun s => l (ix4 a b i s))) := by
  have hb : Ideal.ofBits .f32 0xFF800000#32 = ⊥ := by simp [Ideal.ofBits, Ideal.ieee]
  pointwise [normalised, shifted]
  rw [hb]
  rfl

/-- The last stage read at an entry. -/
theorem finished_apply (w : FVec Ideal S2x4x1024x16 .f32) (v : FVec Ideal S2x4x1024x16x128 .f32) (x0 : FVec Ideal S2x4x1024x128 .f32)
    (x14 : FVec Ideal S128x128 .f32) (x15 : FVec Ideal S128 .f32) (g : Fin 8) (i : Fin 1024) (c : Fin 128) :
    finished w v x0 x14 x15 (ix3 g i c) = x0 (ix4 ⟨g.val / 4, by omega⟩ ⟨g.val % 4, by omega⟩ i c) +
      max (∑ k : Fin 128, (∑ t : Fin 16, w (ix4 ⟨g.val / 4, by omega⟩ ⟨g.val % 4, by omega⟩ i t) *
        v (ix5 ⟨g.val / 4, by omega⟩ ⟨g.val % 4, by omega⟩ i t k)) * x14 (ix2 k c) + x15 (ix1 c)) 0 := by
  pointwise [finished, featureLayer]

/-- The reference's answer for feature c of query i of a cloud. -/
def Cloud.refOut (I : Cloud) (i : Fin 1024) (c : Fin 128) : EReal :=
  I.finish (I.rmix (first16 fun j => -dist I.pos i j) i) i c

/-- The reference's result read at an entry. -/
theorem ref_value (x0 : FVec Ideal S2x4x1024x128 .f32) (x1 : FVec Ideal S2x4x1024x3 .f32) (x2 : FVec Ideal S128x128 .f32)
    (x3 : FVec Ideal S128 .f32) (x4 : FVec Ideal S128x128 .f32) (x5 : FVec Ideal S128 .f32) (x6 : FVec Ideal S128x128 .f32)
    (x7 : FVec Ideal S128 .f32) (x8 : FVec Ideal S3x128 .f32) (x9 : FVec Ideal S128 .f32) (x10 : FVec Ideal S3x128 .f32)
    (x11 : FVec Ideal S128 .f32) (x12 : FVec Ideal S128x1 .f32) (x13 : FVec Ideal S1 .f32) (x14 : FVec Ideal S128x128 .f32)
    (x15 : FVec Ideal S128 .f32) (g : Fin 8) (i : Fin 1024) (c : Fin 128) :
    refOut x0 x1 x2 x3 x4 x5 x6 x7 x8 x9 x10 x11 x12 x13 x14 x15 (ix3 g i c) =
      (argCloud x0 x1 x2 x3 x4 x5 x6 x7 x8 x9 x10 x11 x12 x13 x14 x15 g).refOut i c := by
  have hn := fun t => neighbours_apply x1 ⟨g.val / 4, by omega⟩ ⟨g.val % 4, by omega⟩ i t
  have hr := fun (x : FVec Ideal S2x4x1024x128 .f32) t h => rowsAt_apply x (neighbours x1) ⟨g.val / 4, by omega⟩ ⟨g.val % 4, by omega⟩ i t h _ (hn t)
  have hp := fun t h => positionsAt_apply x1 (neighbours x1) ⟨g.val / 4, by omega⟩ ⟨g.val % 4, by omega⟩ i t h _ (hn t)
  unfold refOut
  rw [finished_apply]
  simp only [normalised_apply, logits_apply, hr, hp, addf_apply, featureLayer_apply, positionLayer_apply]
  rfl

end Cert.Nearest
end
-- ==== Proof.KernelLists.lean ====
module
public import proofs.«01_k».proof.Proof.Network
public import proofs.«01_k».proof.Proof.Gen.KernelIdeal.Skeleton

/-! The kernel's threshold as arrays: the same network, merges and pops as on one column, written with the array operations. -/

@[expose] public section
set_option maxRecDepth 16384
noncomputable section
namespace Cert.Nearest
open Idealize.ShloMosaic Cert.KernelIdeal Cert.KernelIdeal.Gen

/-- The eight slabs of 128 rows of the distance array, each column's eight entries in increasing order, four kept. -/
def slabs (d : FVec Ideal S1024x1024 .f32) : Four (FVec Ideal S128x1024 .f32) :=
  net8 minimumf maximumf
    (extractStridedSlice S128x1024 ![0, 0] d slices_S1024x1024_o0_0_S128x1024)
    (extractStridedSlice S128x1024 ![128, 0] d slices_S1024x1024_o128_0_S128x1024)
    (extractStridedSlice S128x1024 ![256, 0] d slices_S1024x1024_o256_0_S128x1024)
    (extractStridedSlice S128x1024 ![384, 0] d slices_S1024x1024_o384_0_S128x1024)
    (extractStridedSlice S128x1024 ![512, 0] d slices_S1024x1024_o512_0_S128x1024)
    (extractStridedSlice S128x1024 ![640, 0] d slices_S1024x1024_o640_0_S128x1024)
    (extractStridedSlice S128x1024 ![768, 0] d slices_S1024x1024_o768_0_S128x1024)
    (extractStridedSlice S128x1024 ![896, 0] d slices_S1024x1024_o896_0_S128x1024)

/-- A map applied to each of four. -/
def Four.map {α β : Type} (f : α → β) (s : Four α) : Four β := ⟨f s.a, f s.b, f s.c, f s.d⟩

/-- 128 rows of lists merged to 64. -/
def merge64 (s : Four (FVec Ideal S128x1024 .f32)) : Four (FVec Ideal S64x1024 .f32) :=
  merge4 minimumf maximumf (s.map (extractStridedSlice S64x1024 ![0, 0] · slices_S128x1024_o0_0_S64x1024))
    (s.map (extractStridedSlice S64x1024 ![64, 0] · slices_S128x1024_o64_0_S64x1024))

/-- 64 rows of lists merged to 32. -/
def merge32 (s : Four (FVec Ideal S64x1024 .f32)) : Four (FVec Ideal S32x1024 .f32) :=
  merge4 minimumf maximumf (s.map (extractStridedSlice S32x1024 ![0, 0] · slices_S64x1024_o0_0_S32x1024))
    (s.map (extractStridedSlice S32x1024 ![32, 0] · slices_S64x1024_o32_0_S32x1024))

/-- 32 rows of lists merged to 16. -/
def merge16 (s : Four (FVec Ideal S32x1024 .f32)) : Four (FVec Ideal S16x1024 .f32) :=
  merge4 minimumf maximumf (s.map (extractStridedSlice S16x1024 ![0, 0] · slices_S32x1024_o0_0_S16x1024))
    (s.map (extractStridedSlice S16x1024 ![16, 0] · slices_S32x1024_o16_0_S16x1024))

/-- The smallest head of each column. -/
def rowMin (s : FVec Ideal S16x1024 .f32) : FVec Ideal S1x1024 .f32 :=
  shapeCast S1x1024 (multiReduction .minimumf [0] S1024 s 0x7F800000#32 reduces_S16x1024_S1024 (.inl rfl) rfl)
    shapeCasts_S1024_S1x1024

/-- Every list whose head is at most t loses it. -/
def popRows (t : FVec Ideal S1x1024 .f32) (s : Four (FVec Ideal S16x1024 .f32)) : Four (FVec Ideal S16x1024 .f32) :=
  let m := cmpf .ole s.a (broadcastTo S16x1024 t broadcasts_S1x1024_S16x1024)
  ⟨select m s.b s.a, select m s.c s.b, select m s.d s.c,
    select m (broadcast S16x1024 (Scalar.ofBits (F := Ideal) .f32 0x7F800000#32)) s.d⟩

/-- Every list whose head is smallest loses it. -/
def popMin (s : Four (FVec Ideal S16x1024 .f32)) : Four (FVec Ideal S16x1024 .f32) := popRows (rowMin s.a) s

/-- The sixteen lists of each column. -/
def lists (d : FVec Ideal S1024x1024 .f32) : Four (FVec Ideal S16x1024 .f32) := merge16 (merge32 (merge64 (slabs d)))

/-- The threshold of each column. -/
def threshold (d : FVec Ideal S1024x1024 .f32) : FVec Ideal S1x1024 .f32 :=
  rowMin (popMin^[14] (popRows (broadcast S1x1024 (Scalar.ofBits (F := Ideal) .f32 0x00000000#32)) (lists d))).a

section
variable (v3 : FVec Ideal S1024x3 .f32) (v5 : FVec Ideal S3x1024 .f32)

theorem slabs_eq : slabs (k0_pay9 v3 v5) =
    ⟨k0_pay35 (k0_pay26 v3 v5) (k0_pay30 v3 v5),
     k0_pay40 (k0_pay23 v3 v5) (k0_pay25 v3 v5) (k0_pay26 v3 v5) (k0_pay27 v3 v5) (k0_pay28 v3 v5) (k0_pay30 v3 v5) (k0_pay31 v3 v5),
     k0_pay41 (k0_pay23 v3 v5) (k0_pay25 v3 v5) (k0_pay26 v3 v5) (k0_pay27 v3 v5) (k0_pay28 v3 v5) (k0_pay30 v3 v5) (k0_pay31 v3 v5),
     k0_pay42 (k0_pay23 v3 v5) (k0_pay25 v3 v5) (k0_pay26 v3 v5) (k0_pay27 v3 v5) (k0_pay28 v3 v5) (k0_pay29 v3 v5) (k0_pay30 v3 v5) (k0_pay31 v3 v5)⟩ := rfl
end

section
variable (a b c d e f g h : FVec Ideal S128x1024 .f32)
theorem merge64_eq : merge64 ⟨k0_pay35 c g, k0_pay40 a b c d e g h, k0_pay41 a b c d e g h, k0_pay42 a b c d e f g h⟩ =
    ⟨k0_pay51 a b c d e f g h, k0_pay52 a b c d e f g h, k0_pay53 a b c d e f g h, k0_pay54 a b c d e f g h⟩ := rfl
theorem merge32_eq : merge32 ⟨k0_pay51 a b c d e f g h, k0_pay52 a b c d e f g h, k0_pay53 a b c d e f g h, k0_pay54 a b c d e f g h⟩ =
    ⟨k0_pay63 a b c d e f g h, k0_pay64 a b c d e f g h, k0_pay65 a b c d e f g h, k0_pay66 a b c d e f g h⟩ := rfl
end

/-- Five arrays of the last part's first pops, and the six pops after them. -/
theorem last_pops (a b c d : FVec Ideal S16x1024 .f32) :
    k0_pay128 a b c d (broadcastTo S16x1024 (rowMin a) broadcasts_S1x1024_S16x1024) = rowMin (popMin^[6] ⟨a, b, c, d⟩).a := by
  simp only [k0_pay128, Function.iterate_succ_apply, Function.iterate_zero, id_eq, popMin, popRows, rowMin]

section
variable (a b c d : FVec Ideal S32x1024 .f32) (e f : FVec Ideal S16x1024 .f32)

theorem pop1 : popRows (broadcast S1x1024 (Scalar.ofBits (F := Ideal) .f32 0x00000000#32))
      ⟨k0_pay77 a b c d e f, k0_pay78 a b c d e f, k0_pay79 a b c d e f, k0_pay80 a b c d e f⟩ =
    ⟨k0_pay82 a b c d e f, k0_pay83 a b c d e f, k0_pay84 a b c d e f, k0_pay85 a b c d e f⟩ := rfl
theorem pop2 : popMin ⟨k0_pay82 a b c d e f, k0_pay83 a b c d e f, k0_pay84 a b c d e f, k0_pay85 a b c d e f⟩ =
    ⟨k0_pay87 a b c d e f, k0_pay88 a b c d e f, k0_pay89 a b c d e f, k0_pay90 a b c d e f⟩ := rfl
theorem pop3 : popMin ⟨k0_pay87 a b c d e f, k0_pay88 a b c d e f, k0_pay89 a b c d e f, k0_pay90 a b c d e f⟩ =
    ⟨k0_pay92 a b c d e f, k0_pay93 a b c d e f, k0_pay94 a b c d e f, k0_pay95 a b c d e f⟩ := rfl
theorem pop4 : popMin ⟨k0_pay92 a b c d e f, k0_pay93 a b c d e f, k0_pay94 a b c d e f, k0_pay95 a b c d e f⟩ =
    ⟨k0_pay97 a b c d e f, k0_pay98 a b c d e f, k0_pay99 a b c d e f,
      k0_pay101 (k0_pay95 a b c d e f) (k0_pay96 a b c d e f) (k0_pay100 (F := Ideal))⟩ := by
  simp only [popMin, popRows, rowMin, k0_pay96, k0_pay97, k0_pay98, k0_pay99, k0_pay100, k0_pay101]
end

section
variable (p : FVec Ideal S16x1024 .f32) (m : IVec S16x1024 1) (a b c t : FVec Ideal S16x1024 .f32)

theorem pop5 (ht : t = k0_pay100 (F := Ideal)) : popMin ⟨a, b, c, k0_pay101 p m t⟩ =
    ⟨k0_pay103 a b, k0_pay104 a b c, k0_pay105 p m a c t, k0_pay106 p m a t⟩ := by
  subst ht; simp only [popMin, popRows, rowMin, k0_pay100, k0_pay102, k0_pay103, k0_pay104, k0_pay105, k0_pay106]
theorem pop6 : popMin ⟨k0_pay103 a b, k0_pay104 a b c, k0_pay105 p m a c t, k0_pay106 p m a t⟩ =
    ⟨k0_pay108 a b c, k0_pay109 p m a b c t, k0_pay110 p m a b c t, k0_pay111 p m a b t⟩ := by
  simp only [popMin, popRows, rowMin, k0_pay107, k0_pay108, k0_pay109, k0_pay110, k0_pay111]
theorem pop7 : popMin ⟨k0_pay108 a b c, k0_pay109 p m a b c t, k0_pay110 p m a b c t, k0_pay111 p m a b t⟩ =
    ⟨k0_pay113 p m a b c t, k0_pay114 p m a b c t, k0_pay115 p m a b c t, k0_pay116 p m a b c t⟩ := by
  simp only [popMin, popRows, rowMin, k0_pay112, k0_pay113, k0_pay114, k0_pay115, k0_pay116]
theorem pop8 : popMin ⟨k0_pay113 p m a b c t, k0_pay114 p m a b c t, k0_pay115 p m a b c t, k0_pay116 p m a b c t⟩ =
    ⟨k0_pay118 p m a b c t, k0_pay119 p m a b c t, k0_pay120 p m a b c t, k0_pay121 p m a b c t⟩ := by
  simp only [popMin, popRows, rowMin, k0_pay117, k0_pay118, k0_pay119, k0_pay120, k0_pay121]
theorem pop9 : popMin ⟨k0_pay118 p m a b c t, k0_pay119 p m a b c t, k0_pay120 p m a b c t, k0_pay121 p m a b c t⟩ =
    ⟨k0_pay123 p m a b c t, k0_pay124 p m a b c t, k0_pay125 p m a b c t, k0_pay126 p m a b c t⟩ := by
  simp only [popMin, popRows, rowMin, k0_pay122, k0_pay123, k0_pay124, k0_pay125, k0_pay126]
end

theorem merge16_eq (a b c d e f g h : FVec Ideal S128x1024 .f32) :
    merge16 ⟨k0_pay63 a b c d e f g h, k0_pay64 a b c d e f g h, k0_pay65 a b c d e f g h, k0_pay66 a b c d e f g h⟩ =
    ⟨k0_pay77 (k0_pay63 a b c d e f g h) (k0_pay64 a b c d e f g h) (k0_pay65 a b c d e f g h) (k0_pay66 a b c d e f g h) (k0_pay67 a b c d e f g h) (k0_pay68 a b c d e f g h),
     k0_pay78 (k0_pay63 a b c d e f g h) (k0_pay64 a b c d e f g h) (k0_pay65 a b c d e f g h) (k0_pay66 a b c d e f g h) (k0_pay67 a b c d e f g h) (k0_pay68 a b c d e f g h),
     k0_pay79 (k0_pay63 a b c d e f g h) (k0_pay64 a b c d e f g h) (k0_pay65 a b c d e f g h) (k0_pay66 a b c d e f g h) (k0_pay67 a b c d e f g h) (k0_pay68 a b c d e f g h),
     k0_pay80 (k0_pay63 a b c d e f g h) (k0_pay64 a b c d e f g h) (k0_pay65 a b c d e f g h) (k0_pay66 a b c d e f g h) (k0_pay67 a b c d e f g h) (k0_pay68 a b c d e f g h)⟩ := rfl

/-- The threshold the kernel computes from its first arrays of points is the threshold of their distance array. -/
theorem threshold_eq (v3 : FVec Ideal S1024x3 .f32) (v5 : FVec Ideal S3x1024 .f32)
    (A B C D E G H I : FVec Ideal S128x1024 .f32) (hA : A = k0_pay23 v3 v5) (hB : B = k0_pay25 v3 v5) (hC : C = k0_pay26 v3 v5)
    (hD : D = k0_pay27 v3 v5) (hE : E = k0_pay28 v3 v5) (hG : G = k0_pay29 v3 v5) (hH : H = k0_pay30 v3 v5) (hI : I = k0_pay31 v3 v5)
    (a b c d : FVec Ideal S32x1024 .f32) (e f : FVec Ideal S16x1024 .f32)
    (ha : a = k0_pay63 A B C D E G H I) (hb : b = k0_pay64 A B C D E G H I) (hc : c = k0_pay65 A B C D E G H I)
    (hd : d = k0_pay66 A B C D E G H I) (he : e = k0_pay67 A B C D E G H I) (hf : f = k0_pay68 A B C D E G H I)
    (p : FVec Ideal S16x1024 .f32) (m : IVec S16x1024 1) (x y z t : FVec Ideal S16x1024 .f32)
    (hp : p = k0_pay95 a b c d e f) (hm : m = k0_pay96 a b c d e f) (hx : x = k0_pay97 a b c d e f)
    (hy : y = k0_pay98 a b c d e f) (hz : z = k0_pay99 a b c d e f) (ht : t = k0_pay100 (F := Ideal)) :
    k0_pay128 (k0_pay123 p m x y z t) (k0_pay124 p m x y z t) (k0_pay125 p m x y z t) (k0_pay126 p m x y z t)
      (k0_pay127 p m x y z t) = threshold (k0_pay9 v3 v5) := by
  have h : k0_pay127 p m x y z t = broadcastTo S16x1024 (rowMin (k0_pay123 p m x y z t)) broadcasts_S1x1024_S16x1024 := rfl
  rw [h, last_pops, threshold, lists, slabs_eq, ← hA, ← hB, ← hC, ← hD, ← hE, ← hG, ← hH, ← hI, merge64_eq, merge32_eq,
    merge16_eq, ← ha, ← hb, ← hc, ← hd, ← he, ← hf, pop1]
  simp only [Function.iterate_succ_apply, Function.iterate_zero, id_eq]
  rw [pop2, pop3, pop4, ← hp, ← hm, ← hx, ← hy, ← hz, ← ht, pop5 p m x y z t ht, pop6, pop7, pop8, pop9]
end Cert.Nearest
end
-- ==== Proof.KernelColumn.lean ====
module
public import proofs.«01_k».proof.Proof.KernelLists
public import proofs.«01_k».proof.Proof.Pop
public import Idealize.ShloMosaic.Lib.Pointwise

/-! The kernel's threshold array read at one column: sixteen lists of four made from the column's entries, fifteen pops, and
    the smallest head. -/

@[expose] public section
set_option maxRecDepth 16384
noncomputable section
namespace Cert.Nearest
open Idealize.ShloMosaic Cert.KernelIdeal Cert.KernelIdeal.Gen

/-- The word of `+∞` reads as `⊤`. -/
theorem ofBits_inf : Ideal.ofBits .f32 0x7F800000#32 = ⊤ := by simp [Ideal.ofBits, Ideal.ieee]

/-- The sixteen lists at one column. -/
def column (i : Fin 1024) (s : Four (FVec Ideal S16x1024 .f32)) : Lists := fun c => s.map fun v => v (ix2 c i)

theorem rowMin_apply (s : Four (FVec Ideal S16x1024 .f32)) (i : Fin 1024) :
    rowMin s.a (ix2 0 i) = top (column i s) := by
  pointwise [rowMin, top, column, Four.map]
  rw [ofBits_inf]
  rfl

theorem column_popRows (t : FVec Ideal S1x1024 .f32) (s : Four (FVec Ideal S16x1024 .f32)) (i : Fin 1024) :
    column i (popRows t s) = pop (t (ix2 0 i)) (column i s) := by
  funext c
  have ha : (popRows t s).a (ix2 c i) = if s.a (ix2 c i) ≤ t (ix2 0 i) then s.b (ix2 c i) else s.a (ix2 c i) := by
    pointwise [popRows]
  have hb : (popRows t s).b (ix2 c i) = if s.a (ix2 c i) ≤ t (ix2 0 i) then s.c (ix2 c i) else s.b (ix2 c i) := by
    pointwise [popRows]
  have hc : (popRows t s).c (ix2 c i) = if s.a (ix2 c i) ≤ t (ix2 0 i) then s.d (ix2 c i) else s.c (ix2 c i) := by
    pointwise [popRows]
  have hd : (popRows t s).d (ix2 c i) = if s.a (ix2 c i) ≤ t (ix2 0 i) then ⊤ else s.d (ix2 c i) := by
    pointwise [popRows]
    rw [ofBits_inf]
  by_cases h : s.a (ix2 c i) ≤ t (ix2 0 i)
  · simp only [column, Four.map, pop, ha, hb, hc, hd, if_pos h]
    exact (if_pos h).symm
  · simp only [column, Four.map, pop, ha, hb, hc, hd, if_neg h]
    exact (if_neg h).symm

theorem column_popMin (s : Four (FVec Ideal S16x1024 .f32)) (i : Fin 1024) :
    column i (popMin s) = popTop (column i s) := by
  unfold popMin popTop
  rw [column_popRows, rowMin_apply]

theorem column_iterate (n : ℕ) (s : Four (FVec Ideal S16x1024 .f32)) (i : Fin 1024) :
    column i (popMin^[n] s) = popTop^[n] (column i s) := by
  induction n generalizing s with
  | zero => rfl
  | succ n ih => rw [Function.iterate_succ_apply, Function.iterate_succ_apply, ih, column_popMin]

/-- The threshold at a column. -/
theorem threshold_apply (d : FVec Ideal S1024x1024 .f32) (i : Fin 1024) :
    threshold d (ix2 0 i) = top (popTop^[14] (pop 0 (column i (lists d)))) := by
  unfold threshold
  rw [rowMin_apply, column_iterate, column_popRows]
  congr 3
  pointwise

/-- How many of the entries in rows r, r + 128, …, r + 896 of a column are at most t. -/
def tally (d : FVec Ideal S1024x1024 .f32) (i : Fin 1024) (r : ℕ) (hr : r < 128) (t : EReal) : ℕ :=
  ∑ u : Fin 8, if d (ix2 ⟨128 * u.val + r, by omega⟩ i) ≤ t then 1 else 0

theorem counts_slabs (d : FVec Ideal S1024x1024 .f32) (i : Fin 1024) (r : Fin 128) :
    Counts ((slabs d).map fun v => v (ix2 r i)) (tally d i r.val r.isLt) := by
  have h := counts_net8 fun u => d (ix2 ⟨128 * u.val + r.val, by omega⟩ i)
  have e : ((slabs d).map fun v => v (ix2 r i)) = net8 min max
      (d (ix2 ⟨128 * 0 + r.val, by omega⟩ i)) (d (ix2 ⟨128 * 1 + r.val, by omega⟩ i)) (d (ix2 ⟨128 * 2 + r.val, by omega⟩ i))
      (d (ix2 ⟨128 * 3 + r.val, by omega⟩ i)) (d (ix2 ⟨128 * 4 + r.val, by omega⟩ i)) (d (ix2 ⟨128 * 5 + r.val, by omega⟩ i))
      (d (ix2 ⟨128 * 6 + r.val, by omega⟩ i)) (d (ix2 ⟨128 * 7 + r.val, by omega⟩ i)) := by
    refine (net8_map (α := FVec Ideal S128x1024 .f32) minimumf maximumf min max (fun v => v (ix2 r i)) (fun _ _ => rfl)
      (fun _ _ => rfl) _ _ _ _ _ _ _ _).symm.trans ?_
    congr 1 <;> pointwise
  rw [e]
  exact h

theorem counts_merge64 {s : Four (FVec Ideal S128x1024 .f32)} {i : Fin 1024} {n : ∀ r : ℕ, r < 128 → EReal → ℕ}
    (h : ∀ r : Fin 128, Counts (s.map fun v => v (ix2 r i)) (n r.val r.isLt)) (r : Fin 64) :
    Counts ((merge64 s).map fun v => v (ix2 r i)) fun t => n r.val (by omega) t + n (64 + r.val) (by omega) t := by
  have e : (merge64 s).map (fun v => v (ix2 r i)) = merge4 min max (s.map fun v => v (ix2 ⟨r.val, by omega⟩ i))
      (s.map fun v => v (ix2 ⟨64 + r.val, by omega⟩ i)) := by
    have hl : ∀ v : FVec Ideal S128x1024 .f32, extractStridedSlice S64x1024 ![0, 0] v slices_S128x1024_o0_0_S64x1024 (ix2 r i) =
        v (ix2 ⟨r.val, by omega⟩ i) := fun v => by pointwise
    have hh : ∀ v : FVec Ideal S128x1024 .f32, extractStridedSlice S64x1024 ![64, 0] v slices_S128x1024_o64_0_S64x1024 (ix2 r i) =
        v (ix2 ⟨64 + r.val, by omega⟩ i) := fun v => by pointwise
    simp only [Four.map, ← hl, ← hh]
    rfl
  rw [e]
  exact counts_merge4 (h ⟨r.val, by omega⟩) (h ⟨64 + r.val, by omega⟩)

theorem counts_merge32 {s : Four (FVec Ideal S64x1024 .f32)} {i : Fin 1024} {n : ∀ r : ℕ, r < 64 → EReal → ℕ}
    (h : ∀ r : Fin 64, Counts (s.map fun v => v (ix2 r i)) (n r.val r.isLt)) (r : Fin 32) :
    Counts ((merge32 s).map fun v => v (ix2 r i)) fun t => n r.val (by omega) t + n (32 + r.val) (by omega) t := by
  have e : (merge32 s).map (fun v => v (ix2 r i)) = merge4 min max (s.map fun v => v (ix2 ⟨r.val, by omega⟩ i))
      (s.map fun v => v (ix2 ⟨32 + r.val, by omega⟩ i)) := by
    have hl : ∀ v : FVec Ideal S64x1024 .f32, extractStridedSlice S32x1024 ![0, 0] v slices_S64x1024_o0_0_S32x1024 (ix2 r i) =
        v (ix2 ⟨r.val, by omega⟩ i) := fun v => by pointwise
    have hh : ∀ v : FVec Ideal S64x1024 .f32, extractStridedSlice S32x1024 ![32, 0] v slices_S64x1024_o32_0_S32x1024 (ix2 r i) =
        v (ix2 ⟨32 + r.val, by omega⟩ i) := fun v => by pointwise
    simp only [Four.map, ← hl, ← hh]
    rfl
  rw [e]
  exact counts_merge4 (h ⟨r.val, by omega⟩) (h ⟨32 + r.val, by omega⟩)

theorem counts_merge16 {s : Four (FVec Ideal S32x1024 .f32)} {i : Fin 1024} {n : ∀ r : ℕ, r < 32 → EReal → ℕ}
    (h : ∀ r : Fin 32, Counts (s.map fun v => v (ix2 r i)) (n r.val r.isLt)) (r : Fin 16) :
    Counts ((merge16 s).map fun v => v (ix2 r i)) fun t => n r.val (by omega) t + n (16 + r.val) (by omega) t := by
  have e : (merge16 s).map (fun v => v (ix2 r i)) = merge4 min max (s.map fun v => v (ix2 ⟨r.val, by omega⟩ i))
      (s.map fun v => v (ix2 ⟨16 + r.val, by omega⟩ i)) := by
    have hl : ∀ v : FVec Ideal S32x1024 .f32, extractStridedSlice S16x1024 ![0, 0] v slices_S32x1024_o0_0_S16x1024 (ix2 r i) =
        v (ix2 ⟨r.val, by omega⟩ i) := fun v => by pointwise
    have hh : ∀ v : FVec Ideal S32x1024 .f32, extractStridedSlice S16x1024 ![16, 0] v slices_S32x1024_o16_0_S16x1024 (ix2 r i) =
        v (ix2 ⟨16 + r.val, by omega⟩ i) := fun v => by pointwise
    simp only [Four.map, ← hl, ← hh]
    rfl
  rw [e]
  exact counts_merge4 (h ⟨r.val, by omega⟩) (h ⟨16 + r.val, by omega⟩)

/-- A count over one residue class mod 16, split by slab and by row within the slab. -/
theorem count_split (d : Fin 1024 → EReal) (c : Fin 16) (t : EReal) :
    count d c t = ∑ u : Fin 8, ∑ v : Fin 8, if d ⟨128 * u.val + (16 * v.val + c.val), by omega⟩ ≤ t then 1 else 0 := by
  unfold count
  rw [← Finset.sum_product', Finset.univ_product_univ, ← Finset.card_filter]
  refine (Finset.card_bij (fun p _ => (⟨128 * p.1.val + (16 * p.2.val + c.val), by omega⟩ : Fin 1024)) ?_ ?_ ?_).symm
  · intro p hp
    simp only [Finset.mem_filter, Finset.mem_univ, true_and] at hp ⊢
    exact ⟨by omega, hp⟩
  · intro p _ q _ h
    have := congrArg Fin.val h
    simp only at this
    exact Prod.ext (Fin.ext (by omega)) (Fin.ext (by omega))
  · intro j hj
    simp only [Finset.mem_filter, Finset.mem_univ, true_and] at hj
    refine ⟨(⟨j.val / 128, by omega⟩, ⟨j.val % 128 / 16, by omega⟩), ?_, ?_⟩
    · simp only [Finset.mem_filter, Finset.mem_univ, true_and]
      convert hj.2 using 3
      omega
    · exact Fin.ext (by show 128 * (j.val / 128) + (16 * (j.val % 128 / 16) + c.val) = j.val; omega)

/-- Each column's sixteen lists hold the four smallest entries of each residue class mod 16. -/
theorem counts_lists (d : FVec Ideal S1024x1024 .f32) (i : Fin 1024) (c : Fin 16) :
    Counts (column i (lists d) c) (count (fun j => d (ix2 j i)) c) := by
  have h64 := counts_merge64 (n := tally d i) (counts_slabs d i)
  have h32 := counts_merge32 (n := fun r hr t => tally d i r (by omega) t + tally d i (64 + r) (by omega) t) h64
  have h := counts_merge16 (n := fun r hr t => (tally d i r (by omega) t + tally d i (64 + r) (by omega) t) +
    (tally d i (32 + r) (by omega) t + tally d i (64 + (32 + r)) (by omega) t)) h32 c
  refine (congrArg (Counts _) (funext fun t => ?_)).mp h
  rw [count_split]
  simp only [tally, ← Finset.sum_add_distrib]
  refine Finset.sum_congr rfl fun u _ => ?_
  rw [Fin.sum_univ_eight]
  have e : ∀ a b : ℕ, a = b → ∀ (ha : 128 * u.val + a < 1024) (hb : 128 * u.val + b < 1024),
      (if d (ix2 ⟨128 * u.val + a, ha⟩ i) ≤ t then 1 else 0) = if d (ix2 ⟨128 * u.val + b, hb⟩ i) ≤ t then 1 else 0 := by
    intro a b h ha hb; subst h; rfl
  rw [e (64 + c.val) (16 * 4 + c.val) (by omega) (by omega) (by omega),
    e (32 + c.val) (16 * 2 + c.val) (by omega) (by omega) (by omega),
    e (64 + (32 + c.val)) (16 * 6 + c.val) (by omega) (by omega) (by omega),
    e (16 + c.val) (16 * 1 + c.val) (by omega) (by omega) (by omega),
    e (64 + (16 + c.val)) (16 * 5 + c.val) (by omega) (by omega) (by omega),
    e (32 + (16 + c.val)) (16 * 3 + c.val) (by omega) (by omega) (by omega),
    e (64 + (32 + (16 + c.val))) (16 * 7 + c.val) (by omega) (by omega) (by omega),
    e c.val (16 * 0 + c.val) (by omega) (by omega) (by omega)]
  show _ = (((((((_ : ℕ) + _) + _) + _) + _) + _) + _) + _
  simp only [show ((3 : Fin 8) : ℕ) = 3 from rfl, show ((4 : Fin 8) : ℕ) = 4 from rfl, show ((5 : Fin 8) : ℕ) = 5 from rfl,
    show ((6 : Fin 8) : ℕ) = 6 from rfl, show ((7 : Fin 8) : ℕ) = 7 from rfl,
    Fin.val_zero, Fin.val_one, Fin.val_two]
  ac_rfl
end Cert.Nearest
end
-- ==== Proof.KernelBlock.lean ====
module
public import proofs.«01_k».proof.Proof.KernelColumn
public import proofs.«01_k».proof.Proof.Formulas
public import proofs.«01_k».proof.Proof.Gen.KernelIdeal.Value
public import Idealize.ShloMosaic.Lib.Pipeline.ValueKit

/-! What the kernel's body leaves in its output block, read at a point and a channel. -/

@[expose] public section
set_option maxRecDepth 16384
noncomputable section
namespace Cert.Nearest
open Idealize.ShloMosaic Cert.KernelIdeal Cert.KernelIdeal.Gen

/-- The cloud read from the blocks one grid point loads. -/
def blockCloud (x0 : Vec Ideal S1x1024x128 .f32) (x1 : Vec Ideal S1x1024x3 .f32) (x3 : Vec Ideal S128x128 .f32)
    (x4 : Vec Ideal S1x128 .f32) (x5 : Vec Ideal S128x128 .f32) (x6 : Vec Ideal S1x128 .f32) (x7 : Vec Ideal S128x128 .f32)
    (x8 : Vec Ideal S1x128 .f32) (x9 : Vec Ideal S3x128 .f32) (x10 : Vec Ideal S1x128 .f32) (x11 : Vec Ideal S3x128 .f32)
    (x12 : Vec Ideal S1x128 .f32) (x13 : Vec Ideal S128x128 .f32) (x14 : Vec Ideal S1x128 .f32) (bd : Fin 128 → EReal)
    (ba : EReal) : Cloud where
  x j k := x0 (ix3 0 j k)
  pos j k := x1 (ix3 0 j k)
  wq k h := x3 (ix2 k h)
  bq h := x4 (ix2 0 h)
  wk k h := x5 (ix2 k h)
  bk h := x6 (ix2 0 h)
  wv k h := x7 (ix2 k h)
  bv h := x8 (ix2 0 h)
  wp k h := x9 (ix2 k h)
  bp h := x10 (ix2 0 h)
  wd k h := x11 (ix2 k h)
  bd := bd
  wa h := x12 (ix2 0 h)
  ba := ba
  wo k h := x13 (ix2 k h)
  bo h := x14 (ix2 0 h)

/-- The kernel's distances as an array. -/
def Cloud.distArray (I : Cloud) : FVec Ideal S1024x1024 .f32 := fun y => I.kdist (y 0) (y 1)

/-- The body's output block at point i and channel c: the layer's formula on the loaded cloud. -/
theorem block_value (x0 : Vec Ideal S1x1024x128 .f32) (x1 : Vec Ideal S1x1024x3 .f32) (x2 : Vec Ideal S1x3x1024 .f32)
    (x3 : Vec Ideal S128x128 .f32)
    (x4 : Vec Ideal S1x128 .f32) (x5 : Vec Ideal S128x128 .f32) (x6 : Vec Ideal S1x128 .f32) (x7 : Vec Ideal S128x128 .f32)
    (x8 : Vec Ideal S1x128 .f32) (x9 : Vec Ideal S3x128 .f32) (x10 : Vec Ideal S1x128 .f32) (x11 : Vec Ideal S3x128 .f32)
    (x12 : Vec Ideal S1x128 .f32) (x13 : Vec Ideal S128x128 .f32) (x14 : Vec Ideal S1x128 .f32) (bd : Fin 128 → EReal)
    (ba : EReal) (hT : ∀ j k, x2 (ix3 0 k j) = x1 (ix3 0 j k)) (i : Fin 1024) (c : Fin 128) :
    let I := blockCloud x0 x1 x3 x4 x5 x6 x7 x8 x9 x10 x11 x12 x13 x14 bd ba
    out0_15 x0 x1 x2 x3 x4 x5 x6 x7 x8 x9 x10 x11 x12 x13 x14 (ix3 0 i c) =
      I.finish (I.kmix I.kdist (fun i => threshold I.distArray (ix2 0 i)) i) i c := by
  intro I
  have hd : ∀ j i : Fin 1024, k0_pay9 (k0_pay3 x1) (k0_pay4 x2) (ix2 j i) = I.kdist j i := by
    intro j i
    pointwise [k0_pay9, k0_pay3, k0_pay4]
    simp only [hT]
    rfl
  have ht := threshold_eq (k0_pay132 x0 x1 x2 x3 x4 x5 x6 x7 x8 x9 x10 x11 x12 x13 x14)
    (k0_pay133 x0 x1 x2 x3 x4 x5 x6 x7 x8 x9 x10 x11 x12 x13 x14)
    (k0_pay134 x0 x1 x2 x3 x4 x5 x6 x7 x8 x9 x10 x11 x12 x13 x14) (k0_pay135 x0 x1 x2 x3 x4 x5 x6 x7 x8 x9 x10 x11 x12 x13 x14)
    (k0_pay136 x0 x1 x2 x3 x4 x5 x6 x7 x8 x9 x10 x11 x12 x13 x14) (k0_pay137 x0 x1 x2 x3 x4 x5 x6 x7 x8 x9 x10 x11 x12 x13 x14)
    (k0_pay138 x0 x1 x2 x3 x4 x5 x6 x7 x8 x9 x10 x11 x12 x13 x14) (k0_pay139 x0 x1 x2 x3 x4 x5 x6 x7 x8 x9 x10 x11 x12 x13 x14)
    (k0_pay140 x0 x1 x2 x3 x4 x5 x6 x7 x8 x9 x10 x11 x12 x13 x14) (k0_pay141 x0 x1 x2 x3 x4 x5 x6 x7 x8 x9 x10 x11 x12 x13 x14)
    rfl rfl rfl rfl rfl rfl rfl rfl
    (k0_pay142 x0 x1 x2 x3 x4 x5 x6 x7 x8 x9 x10 x11 x12 x13 x14) (k0_pay143 x0 x1 x2 x3 x4 x5 x6 x7 x8 x9 x10 x11 x12 x13 x14)
    (k0_pay144 x0 x1 x2 x3 x4 x5 x6 x7 x8 x9 x10 x11 x12 x13 x14) (k0_pay145 x0 x1 x2 x3 x4 x5 x6 x7 x8 x9 x10 x11 x12 x13 x14)
    (k0_pay146 x0 x1 x2 x3 x4 x5 x6 x7 x8 x9 x10 x11 x12 x13 x14) (k0_pay147 x0 x1 x2 x3 x4 x5 x6 x7 x8 x9 x10 x11 x12 x13 x14)
    rfl rfl rfl rfl rfl rfl
    (k0_pay148 x0 x1 x2 x3 x4 x5 x6 x7 x8 x9 x10 x11 x12 x13 x14) (k0_pay149 x0 x1 x2 x3 x4 x5 x6 x7 x8 x9 x10 x11 x12 x13 x14)
    (k0_pay150 x0 x1 x2 x3 x4 x5 x6 x7 x8 x9 x10 x11 x12 x13 x14) (k0_pay151 x0 x1 x2 x3 x4 x5 x6 x7 x8 x9 x10 x11 x12 x13 x14)
    (k0_pay152 x0 x1 x2 x3 x4 x5 x6 x7 x8 x9 x10 x11 x12 x13 x14) (k0_pay153 x0 x1 x2 x3 x4 x5 x6 x7 x8 x9 x10 x11 x12 x13 x14)
    rfl rfl rfl rfl rfl rfl
  have h1 : k0_pay131 x0 x1 x2 x3 x4 x5 x6 x7 x8 x9 x10 x11 x12 x13 x14 = k0_pay2 x0 := by
    unfold k0_pay131; rw [View.ld_unit_lit _ _ (by decide)]
  have h2 : k0_pay132 x0 x1 x2 x3 x4 x5 x6 x7 x8 x9 x10 x11 x12 x13 x14 = k0_pay3 x1 := by
    unfold k0_pay132; rw [View.ld_unit_lit _ _ (by decide)]
  have h3 : k0_pay133 x0 x1 x2 x3 x4 x5 x6 x7 x8 x9 x10 x11 x12 x13 x14 = k0_pay4 x2 := by
    unfold k0_pay133; rw [View.ld_unit_lit _ _ (by decide)]
  frame_out
  rw [ht, h1, h2, h3]
  have hD : k0_pay9 (k0_pay3 x1) (k0_pay4 x2) = I.distArray := by
    funext y
    rw [show y = ix2 (y 0) (y 1) from by funext a; match a with | 0 => rfl | 1 => rfl]
    exact hd _ _
  rw [hD] at hd ⊢
  generalize threshold I.distArray = T
  revert hd
  generalize I.distArray = D
  intro hd
  pointwise [k0_pay1, k0_pay2, k0_pay3, k0_pay5, k0_pay6, k0_pay7, k0_pay8, k0_pay129, k0_pay130]
  simp only [hd]
  rfl

end Cert.Nearest
end
-- ==== Proof.KernelValue.lean ====
module
public import proofs.«01_k».proof.Proof.KernelBlock

/-! The kernel's result array: every entry is the layer's formula on its cloud. -/

@[expose] public section
set_option maxRecDepth 16384
noncomputable section
namespace Cert.Nearest
open Idealize.ShloMosaic

open Cert.KernelIdeal Cert.KernelIdeal.Gen

variable (m : (ℓ : Loc nD τ sig) → Buf (Elt Ideal) ℓ) (c : Dev nD)

/-- Cloud g read from the arguments in memory. -/
def memCloud (g : Fin 8) : Cloud :=
  argCloud (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15)) g

/-- Where every window's block lies. -/
theorem index_facts : ∀ t : Fin grid0.N, win0_0.index t = ![t.val, 0, 0] ∧ win0_1.index t = ![t.val, 0, 0] ∧
    win0_2.index t = ![t.val, 0, 0] ∧ win0_3.index t = ![0, 0] ∧ win0_4.index t = ![0, 0] ∧ win0_5.index t = ![0, 0] ∧
    win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] ∧
    win0_14.index t = ![0, 0] ∧ win0_15.index t = ![t.val, 0, 0] := by decide +kernel

/-- The host reshape of x: cloud g of eight is cloud g % 4 of batch g / 4. -/
theorem entry_x (g : Fin 8) (j : Fin 1024) (k : Fin 128) : V m c main_v0 (ix3 g j k) =
    m ((c.tc : Thread nD τ).loc main_arg0) (ix4 ⟨g.val / 4, by omega⟩ ⟨g.val % 4, by omega⟩ j k) := by
  entry_read
  pointwise

/-- The host reshape of the positions. -/
theorem entry_pos (g : Fin 8) (j : Fin 1024) (k : Fin 3) : V m c main_v1 (ix3 g j k) =
    m ((c.tc : Thread nD τ).loc main_arg1) (ix4 ⟨g.val / 4, by omega⟩ ⟨g.val % 4, by omega⟩ j k) := by
  entry_read
  pointwise

/-- The transposed positions. -/
theorem entry_posT (g : Fin 8) (j : Fin 1024) (k : Fin 3) : V m c main_v2 (ix3 g k j) =
    m ((c.tc : Thread nD τ).loc main_arg1) (ix4 ⟨g.val / 4, by omega⟩ ⟨g.val % 4, by omega⟩ j k) := by
  entry_read
  pointwise

/-- The attention column as a row. -/
theorem entry_wa (h : Fin 128) : V m c main_v7 (ix2 0 h) = m ((c.tc : Thread nD τ).loc main_arg12) (ix2 h 0) := by
  entry_read
  pointwise

/-- The biases as rows. -/
theorem entry_bias (h : Fin 128) : V m c main_v3 (ix2 0 h) = m ((c.tc : Thread nD τ).loc main_arg3) (ix1 h) ∧
    V m c main_v4 (ix2 0 h) = m ((c.tc : Thread nD τ).loc main_arg5) (ix1 h) ∧
    V m c main_v5 (ix2 0 h) = m ((c.tc : Thread nD τ).loc main_arg7) (ix1 h) ∧
    V m c main_v6 (ix2 0 h) = m ((c.tc : Thread nD τ).loc main_arg9) (ix1 h) ∧
    V m c main_v8 (ix2 0 h) = m ((c.tc : Thread nD τ).loc main_arg15) (ix1 h) := by
  refine ⟨?_, ?_, ?_, ?_, ?_⟩ <;> entry_read <;> pointwise

/-- The three blocked windows hold cloud t's rows. -/
theorem block_cloud (t : Fin cfg0.N) (g : Fin 8) (hg : g.val = t.val) (j : Fin 1024) :
    (∀ k : Fin 128, iblk m c 0 t (ix3 0 j k) = V m c main_v0 (ix3 g j k)) ∧
    (∀ k : Fin 3, iblk m c 1 t (ix3 0 j k) = V m c main_v1 (ix3 g j k)) ∧
    (∀ k : Fin 3, iblk m c 2 t (ix3 0 k j) = V m c main_v2 (ix3 g k j)) := by
  refine ⟨fun k => ?_, fun k => ?_, fun k => ?_⟩ <;> blk_ext [iblk, V, index_facts t]

/-- The square weights are loaded whole. -/
theorem block_square (t : Fin cfg0.N) (j k : Fin 128) :
    iblk m c 3 t (ix2 j k) = m ((c.tc : Thread nD τ).loc main_arg2) (ix2 j k) ∧
    iblk m c 5 t (ix2 j k) = m ((c.tc : Thread nD τ).loc main_arg4) (ix2 j k) ∧
    iblk m c 7 t (ix2 j k) = m ((c.tc : Thread nD τ).loc main_arg6) (ix2 j k) ∧
    iblk m c 13 t (ix2 j k) = m ((c.tc : Thread nD τ).loc main_arg14) (ix2 j k) := by
  refine ⟨?_, ?_, ?_, ?_⟩ <;> blk_ext [iblk, V, index_facts t]

/-- The two position weights are loaded whole. -/
theorem block_three (t : Fin cfg0.N) (j : Fin 3) (k : Fin 128) :
    iblk m c 9 t (ix2 j k) = m ((c.tc : Thread nD τ).loc main_arg8) (ix2 j k) ∧
    iblk m c 11 t (ix2 j k) = m ((c.tc : Thread nD τ).loc main_arg10) (ix2 j k) := by
  refine ⟨?_, ?_⟩ <;> blk_ext [iblk, V, index_facts t]

/-- The row operands are loaded whole. -/
theorem block_row (t : Fin cfg0.N) (k : Fin 128) :
    iblk m c 4 t (ix2 0 k) = V m c main_v3 (ix2 0 k) ∧ iblk m c 6 t (ix2 0 k) = V m c main_v4 (ix2 0 k) ∧
    iblk m c 8 t (ix2 0 k) = V m c main_v5 (ix2 0 k) ∧ iblk m c 10 t (ix2 0 k) = V m c main_v6 (ix2 0 k) ∧
    iblk m c 12 t (ix2 0 k) = V m c main_v7 (ix2 0 k) ∧ iblk m c 14 t (ix2 0 k) = V m c main_v8 (ix2 0 k) := by
  refine ⟨?_, ?_, ?_, ?_, ?_, ?_⟩ <;> blk_ext [iblk, V, index_facts t]

/-- The cloud grid point t loads is cloud t. -/
theorem loaded_cloud (t : Fin cfg0.N) (g : Fin 8) (hg : g.val = t.val) :
    blockCloud (iblk m c 0 t) (iblk m c 1 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)
      (memCloud m c g).bd (memCloud m c g).ba = memCloud m c g := by
  have hB := block_cloud m c t g hg
  have hS := block_square m c t
  have h3 := block_three m c t
  have hR := block_row m c t
  have hE := entry_bias m c
  unfold blockCloud memCloud argCloud
  congr 1
  · funext j k; exact ((hB j).1 k).trans (entry_x m c g j k)
  · funext j k; exact ((hB j).2.1 k).trans (entry_pos m c g j k)
  · funext j k; exact (hS j k).1
  · funext h; exact (hR h).1.trans (hE h).1
  · funext j k; exact (hS j k).2.1
  · funext h; exact (hR h).2.1.trans (hE h).2.1
  · funext j k; exact (hS j k).2.2.1
  · funext h; exact (hR h).2.2.1.trans (hE h).2.2.1
  · funext j k; exact (h3 j k).1
  · funext h; exact (hR h).2.2.2.1.trans (hE h).2.2.2.1
  · funext j k; exact (h3 j k).2
  · funext h; exact (hR h).2.2.2.2.1.trans (entry_wa m c h)
  · funext j k; exact (hS j k).2.2.2
  · funext h; exact (hR h).2.2.2.2.2.trans (hE h).2.2.2.2

/-- The kernel's answer for feature k of query i of a cloud. -/
def Cloud.kernelOut (I : Cloud) (i : Fin 1024) (k : Fin 128) : EReal :=
  I.finish (I.kmix I.kdist (fun i => threshold I.distArray (ix2 0 i)) i) i k

/-- The kernel's result array. -/
theorem kernel_value : (dats m 0 c).arrAt 15 cfg0.N = fun y => (memCloud m c (y 0)).kernelOut (y 1) (y 2) := by
  refine (dats m 0 c).arrAt_eq_of_covers 15 _ (by decide +kernel) fun t hf y => ?_
  blk_simp
  rw [after0_15]
  obtain ⟨a, i, k, rfl⟩ : ∃ (a : Fin 1) (i : Fin 1024) (k : Fin 128), y = ix3 a i k := ⟨y 0, y 1, y 2, by ext a; fin_cases a <;> rfl⟩
  obtain rfl : a = 0 := Subsingleton.elim _ _
  have hg : t.val < 8 := t.isLt
  have h := block_value (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (memCloud m c ⟨t.val, hg⟩).bd (memCloud m c ⟨t.val, hg⟩).ba
    (fun j k => (((block_cloud m c t ⟨t.val, hg⟩ rfl j).2.2 k).trans (entry_posT m c _ j k)).trans
      (((block_cloud m c t ⟨t.val, hg⟩ rfl j).2.1 k).trans (entry_pos m c _ j k)).symm) i k
  simp only [loaded_cloud m c t ⟨t.val, hg⟩ rfl] at h
  refine h.trans ?_
  have e : (win0_15.blk t).view.emb (ix3 0 i k) = ix3 ⟨t.val, hg⟩ i k := by
    blk_ext [index_facts t]
  rw [e]
  rfl

end Cert.Nearest
end
-- ==== Proof.Algebra.lean ====
module
public import proofs.«01_k».proof.Proof.Softmix
public import proofs.«01_k».proof.Proof.RefRead
public import proofs.«01_k».proof.Proof.KernelValue

/-! On a cloud of reals the kernel's answer for a clear query is the reference's. -/

@[expose] public section
noncomputable section
namespace Cert.Nearest
open Idealize.ShloMosaic

/-- The numbers the logits and the distances are made of are real. (Nothing is asked of the value and output weights.) -/
structure Cloud.Finite (I : Cloud) : Prop where
  x : ∃ f : Fin 1024 → Fin 128 → ℝ, ∀ j k, I.x j k = f j k
  pos : ∃ f : Fin 1024 → Fin 3 → ℝ, ∀ j k, I.pos j k = f j k
  wq : ∃ f : Fin 128 → Fin 128 → ℝ, ∀ k h, I.wq k h = f k h
  bq : ∃ f : Fin 128 → ℝ, ∀ h, I.bq h = f h
  wk : ∃ f : Fin 128 → Fin 128 → ℝ, ∀ k h, I.wk k h = f k h
  bk : ∃ f : Fin 128 → ℝ, ∀ h, I.bk h = f h
  wp : ∃ f : Fin 3 → Fin 128 → ℝ, ∀ k h, I.wp k h = f k h
  bp : ∃ f : Fin 128 → ℝ, ∀ h, I.bp h = f h
  wd : ∃ f : Fin 3 → Fin 128 → ℝ, ∀ k h, I.wd k h = f k h
  bd : ∃ f : Fin 128 → ℝ, ∀ h, I.bd h = f h
  wa : ∃ f : Fin 128 → ℝ, ∀ h, I.wa h = f h
  ba : ∃ f : ℝ, I.ba = f

/-- The two logits of a query differ by a number that is the same for every point. -/
theorem Cloud.logit_shift (I : Cloud) (hI : I.Finite) (i : Fin 1024) : ∃ (l : Fin 1024 → ℝ) (K : ℝ),
    (∀ j, I.klogit j i = l j) ∧ ∀ j, I.rlogit j i = ((l j + K : ℝ) : EReal) := by
  obtain ⟨x, hx⟩ := hI.x
  obtain ⟨pos, hpos⟩ := hI.pos
  obtain ⟨wq, hwq⟩ := hI.wq
  obtain ⟨bq, hbq⟩ := hI.bq
  obtain ⟨wk, hwk⟩ := hI.wk
  obtain ⟨bk, hbk⟩ := hI.bk
  obtain ⟨wp, hwp⟩ := hI.wp
  obtain ⟨bp, hbp⟩ := hI.bp
  obtain ⟨wd, hwd⟩ := hI.wd
  obtain ⟨bd, hbd⟩ := hI.bd
  obtain ⟨wa, hwa⟩ := hI.wa
  obtain ⟨ba, hba⟩ := hI.ba
  let q : Fin 128 → ℝ := fun h => ∑ k, x i k * wq k h + ∑ k, pos i k * wp k h + (bq h + bp h)
  refine ⟨fun j => ∑ h, (∑ k, x j k * wk k h + ∑ k, pos j k * (wp k h + wd k h) + (bk h + bp h)) * (q h * wa h),
    ∑ h, q h * (bd h - ∑ k, pos i k * wd k h) * wa h + ba, fun j => ?_, fun j => ?_⟩
  · simp only [Cloud.klogit, Cloud.kk, Cloud.kq, hx, hpos, hwq, hbq, hwk, hbk, hwp, hbp, hwd, hwa,
      ← EReal.coe_add, ← EReal.coe_mul, ← coe_sum, q]
  · simp only [Cloud.rlogit, Cloud.rk, Cloud.rq, hx, hpos, hwq, hbq, hwk, hbk, hwp, hbp, hwd, hbd, hwa, hba,
      ← EReal.coe_add, ← EReal.coe_mul, ← EReal.coe_sub, ← coe_sum]
    congr 1
    rw [← add_assoc, ← Finset.sum_add_distrib]
    congr 1
    refine Finset.sum_congr rfl fun h _ => ?_
    simp only [q, mul_add, sub_mul, Finset.sum_add_distrib, Finset.sum_sub_distrib]
    ring

/-- The kernel's squared distance is the reference's. -/
theorem Cloud.kdist_eq (I : Cloud) (hI : I.Finite) (j i : Fin 1024) : I.kdist j i = dist I.pos i j := by
  obtain ⟨pos, hpos⟩ := hI.pos
  simp only [Cloud.kdist, dist, Fin.sum_univ_three, hpos, ← EReal.coe_add, ← EReal.coe_mul, ← EReal.coe_sub]
  congr 1
  ring

/-- A squared distance is a real at least zero, and zero from a point to itself. -/
theorem Cloud.dist_real (I : Cloud) (hI : I.Finite) (i j : Fin 1024) :
    dist I.pos i j < ⊤ ∧ 0 ≤ dist I.pos i j ∧ dist I.pos i i = 0 := by
  obtain ⟨pos, hpos⟩ := hI.pos
  simp only [dist, Fin.sum_univ_three, hpos, ← EReal.coe_add, ← EReal.coe_mul, ← EReal.coe_sub]
  refine ⟨EReal.coe_lt_top _, EReal.coe_nonneg.mpr ?_, ?_⟩
  · exact add_nonneg (add_nonneg (mul_self_nonneg _) (mul_self_nonneg _)) (mul_self_nonneg _)
  · simp

/-- At a clear query the kernel's threshold is the distance of the sixteenth nearest point. -/
theorem Cloud.threshold_eq (I : Cloud) (hI : I.Finite) (i : Fin 1024) (hc : Clear I.pos i) :
    threshold I.distArray (ix2 0 i) = dist I.pos i (first16 (fun j => -dist I.pos i j) 15) := by
  have hd : (fun j => I.distArray (ix2 j i)) = dist I.pos i := funext fun j => I.kdist_eq hI j i
  have hM := counts_lists I.distArray i
  rw [hd] at hM
  rw [threshold_apply]
  exact top_steps (lists16_order _ hc.step) hM (fun j => (I.dist_real hI i j).1) hc.room (fun j => (I.dist_real hI i j).2.1)
    ⟨i, (I.dist_real hI i i).2.2⟩

/-- The kernel's mixed values at a clear query are the reference's. -/
theorem Cloud.mix_eq (I : Cloud) (hI : I.Finite) (i : Fin 1024) (hc : Clear I.pos i) (c : Fin 128) :
    I.kmix I.kdist (fun i => threshold I.distArray (ix2 0 i)) i c = I.rmix (first16 fun j => -dist I.pos i j) i c := by
  obtain ⟨l, K, hk, hr⟩ := I.logit_shift hI i
  have hL : Lists16 (dist I.pos i) _ := lists16_order _ hc.step
  have hw : ∀ j, I.kweight I.kdist (fun i => threshold I.distArray (ix2 0 i)) j i =
      if dist I.pos i j ≤ dist I.pos i (first16 (fun j => -dist I.pos i j) 15) then Ideal.exp (l j) else 0 := by
    intro j
    unfold Cloud.kweight
    beta_reduce
    rw [I.threshold_eq hI i hc, I.kdist_eq hI j i, hk j]
  unfold Cloud.kmix Cloud.rmix
  simp only [hw, hr, ite_mul, zero_mul]
  rw [hL.sum_eq, hL.sum_eq, softmix_shift]

/-- The kernel's answer at a clear query is the reference's. -/
theorem Cloud.out_eq (I : Cloud) (hI : I.Finite) (i : Fin 1024) (hc : Clear I.pos i) (c : Fin 128) :
    I.kernelOut i c = I.refOut i c := by
  unfold Cloud.kernelOut Cloud.refOut
  rw [funext fun c => I.mix_eq hI i hc c]

end Cert.Nearest
end
-- ==== Proof.Precondition.lean ====
module
public import proofs.«01_k».proof.Proof.Algebra
public import proofs.«01_k».proof.Proof.Gen.Pre_finite

/-! The precondition `finite` makes every cloud one of reals. -/

@[expose] public section
set_option maxRecDepth 16384
noncomputable section
namespace Cert.Nearest
open Idealize.ShloMosaic

/-- An array whose entries' absolute values are all below infinity holds reals. -/
theorem real_of_abs_lt {S : Shape} (b : (⟨0, ![]⟩ : Shape).BroadcastsInDim S (![] : Fin 0 → Fin S.rank)) (x : FVec Ideal S .f32)
    (h : cmpf .olt (Host.absf x) (broadcastInDim S ![] b (constant ⟨0, ![]⟩ .f32 0x7F800000#32)) = fun _ => 1#1) (i : S.Idx) :
    ∃ r : ℝ, x i = r := by
  have hi := congrFun h i
  change BitVec.ofBool (decide (max (x i) (-x i) < Ideal.ofBits .f32 0x7F800000#32)) = 1#1 at hi
  rw [ofBits_inf] at hi
  have hlt : max (x i) (-x i) < ⊤ := by
    by_contra hn
    rw [decide_eq_false hn] at hi
    exact absurd hi (by decide)
  have h1 : x i ≠ ⊤ := (lt_of_le_of_lt (le_max_left _ _) hlt).ne
  have h2 : x i ≠ ⊥ := fun e => by
    rw [e, EReal.neg_bot] at hlt
    exact lt_irrefl _ (lt_of_le_of_lt (le_max_right _ _) hlt)
  exact ⟨(x i).toReal, (EReal.coe_toReal h1 h2).symm⟩

section
open Cert.Pre_finite
/-- Under the precondition every cloud is one of reals. -/
theorem finite_cloud (x0 : FVec Ideal S2x4x1024x128 .f32) (x1 : FVec Ideal S2x4x1024x3 .f32) (x2 : FVec Ideal S128x128 .f32)
    (x3 : FVec Ideal S128 .f32) (x4 : FVec Ideal S128x128 .f32) (x5 : FVec Ideal S128 .f32) (x6 : FVec Ideal S128x128 .f32)
    (x7 : FVec Ideal S128 .f32) (x8 : FVec Ideal S3x128 .f32) (x9 : FVec Ideal S128 .f32) (x10 : FVec Ideal S3x128 .f32)
    (x11 : FVec Ideal S128 .f32) (x12 : FVec Ideal S128x1 .f32) (x13 : FVec Ideal S1 .f32) (x14 : FVec Ideal S128x128 .f32)
    (x15 : FVec Ideal S128 .f32)
    (h : let r := fn (F := Ideal) x0 x1 x2 x3 x4 x5 x6 x7 x8 x9 x10 x11 x12 x13 x14 x15
      r.1 = (fun _ => 1#1) ∧ r.2.1 = (fun _ => 1#1) ∧ r.2.2.1 = (fun _ => 1#1) ∧ r.2.2.2.1 = (fun _ => 1#1) ∧
      r.2.2.2.2.1 = (fun _ => 1#1) ∧ r.2.2.2.2.2.1 = (fun _ => 1#1) ∧ r.2.2.2.2.2.2.1 = (fun _ => 1#1) ∧
      r.2.2.2.2.2.2.2.1 = (fun _ => 1#1) ∧ r.2.2.2.2.2.2.2.2.1 = (fun _ => 1#1) ∧ r.2.2.2.2.2.2.2.2.2.1 = (fun _ => 1#1) ∧
      r.2.2.2.2.2.2.2.2.2.2.1 = (fun _ => 1#1) ∧ r.2.2.2.2.2.2.2.2.2.2.2 = (fun _ => 1#1)) (g : Fin 8) :
    (argCloud x0 x1 x2 x3 x4 x5 x6 x7 x8 x9 x10 x11 x12 x13 x14 x15 g).Finite := by
  obtain ⟨h0, h1, h2, h3, h4, h5, h8, h9, h10, h11, h12, h13⟩ := h
  choose f0 e0 using real_of_abs_lt _ x0 h0
  choose f1 e1 using real_of_abs_lt _ x1 h1
  choose f2 e2 using real_of_abs_lt _ x2 h2
  choose f3 e3 using real_of_abs_lt _ x3 h3
  choose f4 e4 using real_of_abs_lt _ x4 h4
  choose f5 e5 using real_of_abs_lt _ x5 h5
  choose f8 e8 using real_of_abs_lt _ x8 h8
  choose f9 e9 using real_of_abs_lt _ x9 h9
  choose f10 e10 using real_of_abs_lt _ x10 h10
  choose f11 e11 using real_of_abs_lt _ x11 h11
  choose f12 e12 using real_of_abs_lt _ x12 h12
  choose f13 e13 using real_of_abs_lt _ x13 h13
  exact ⟨⟨_, fun j k => e0 _⟩, ⟨_, fun j k => e1 _⟩, ⟨_, fun k h => e2 _⟩, ⟨_, fun h => e3 _⟩, ⟨_, fun k h => e4 _⟩,
    ⟨_, fun h => e5 _⟩, ⟨_, fun k h => e8 _⟩, ⟨_, fun h => e9 _⟩, ⟨_, fun k h => e10 _⟩, ⟨_, fun h => e11 _⟩,
    ⟨_, fun h => e12 _⟩, ⟨_, e13 _⟩⟩
end

end Cert.Nearest
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.On_clear
public import Idealize.ShloMosaic.Adequacy
public import Idealize.ShloMosaic.Init
public import Idealize.ShloMosaic.Lib.Quiescent
public import proofs.«01_k».proof.Proof.Precondition

@[expose] public section

noncomputable section

namespace Cert.Proof

open Idealize.ShloMosaic Idealize.SL.Sem

section
open Cert.KernelIdeal
/-- Where the mask is set the reference's result, of the kernel's arguments, is the kernel's result. -/
theorem values_agree (m : (ℓ : Loc nD τ sig) → Buf (Elt Ideal) ℓ) (c : Dev nD) (hpre : Cert.Pre_KernelIdeal_finite m)
    (y : (⟨3, ![8, 1024, 128]⟩ : Shape).Idx)
    (h : Cert.On_clear.fn (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15)) y = 1#1) :
    Cert.Nearest.refOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15)) y =
    (Cert.KernelIdeal.Gen.dats m 0 c).arrAt 15 Cert.KernelIdeal.cfg0.N y := by
  obtain ⟨g, i, k, rfl⟩ : ∃ (g : Fin 8) (i : Fin 1024) (k : Fin 128), y = ix3 g i k :=
    ⟨y 0, y 1, y 2, by ext a; fin_cases a <;> rfl⟩
  rw [Cert.Nearest.kernel_value, Cert.Nearest.ref_value]
  exact (Cert.Nearest.Cloud.out_eq _ (Cert.Nearest.finite_cloud _ _ _ _ _ _ _ _ _ _ _ _ _ _ _ _ (hpre c) g) i
    (Cert.Nearest.clear_of_mask _ _ _ _ _ _ _ _ _ _ _ _ _ _ _ _ g i k h) k).symm
end

/-- The kernel's result is the reference's where the mask is set. -/
theorem algebraic : Cert.algebraic_KernelIdeal_ReferenceIdeal_on_clear_pre_finite := by
  intro m ρ m' ρ' hpre hagree
  refine ⟨fun c => (Cert.KernelIdeal.Gen.dats m 0 c).arrAt 15 Cert.KernelIdeal.cfg0.N, ?_, ?_⟩
  · refine (θ_run Cert.KernelIdeal.defs _ _).mono (fun r h c => ?_) (Cert.KernelIdeal.Value.run_blocks m ρ)
    exact ⟨fun i _ => congrFun (h c).1 i, (h c).2⟩
  · refine (θ_run Cert.ReferenceIdeal.defs _ _).mono (fun r h c => ?_) (Cert.ReferenceIdeal.Value.run (F := Ideal) m' ρ')
    refine ⟨fun i hi => ?_, (h c).2⟩
    obtain ⟨a0, a1, a2, a3, a4, a5, a6, a7, a8, a9, a10, a11, a12, a13, a14, a15⟩ := hagree c
    rw [(h c).1, Cert.Nearest.ref_stages, a0, a1, a2, a3, a4, a5, a6, a7, a8, a9, a10, a11, a12, a13, a14, a15]
    exact values_agree m c hpre i hi

/-- The reference ends with its arguments and its semaphores untouched. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every claim: the three programs leave their arguments and their semaphores alone; the idealized kernel is the kernel's
    own text; and its result is the reference's. -/
theorem claim : Cert.Claim :=
  ⟨Cert.Kernel.Gen.facts, Cert.KernelIdeal.Gen.facts, Cert.ReferenceIdeal.Gen.facts, Cert.Pre_finite.Gen.facts, Cert.On_clear.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
